-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x20x512x1x1 : Shape := ⟨5, ![8, 20, 512, 1, 1]⟩
abbrev S5120 : Shape := ⟨1, ![5120]⟩
abbrev S8x20x512 : Shape := ⟨3, ![8, 20, 512]⟩
abbrev S8x10x512 : Shape := ⟨3, ![8, 10, 512]⟩
abbrev S8x512x10 : Shape := ⟨3, ![8, 512, 10]⟩
abbrev S8x5120 : Shape := ⟨2, ![8, 5120]⟩
abbrev S8x512x20 : Shape := ⟨3, ![8, 512, 20]⟩
abbrev S8x5120x2 : Shape := ⟨3, ![8, 5120, 2]⟩
abbrev S8x5120x1 : Shape := ⟨3, ![8, 5120, 1]⟩
abbrev S1x5120 : Shape := ⟨2, ![1, 5120]⟩
abbrev S8x2000 : Shape := ⟨2, ![8, 2000]⟩
abbrev S_ : Shape := ⟨0, ![]⟩
abbrev S8x2000x1 : Shape := ⟨3, ![8, 2000, 1]⟩
abbrev S1 : Shape := ⟨1, ![1]⟩
abbrev S1x1x1 : Shape := ⟨3, ![1, 1, 1]⟩
abbrev S8x2048 : Shape := ⟨2, ![8, 2048]⟩
abbrev S8x2048x1 : Shape := ⟨3, ![8, 2048, 1]⟩
abbrev S8x2048x2 : Shape := ⟨3, ![8, 2048, 2]⟩
abbrev S8x1x2048 : Shape := ⟨3, ![8, 1, 2048]⟩
abbrev S8x300x2 : Shape := ⟨3, ![8, 300, 2]⟩
abbrev S8 : Shape := ⟨1, ![8]⟩
abbrev S8x1x1 : Shape := ⟨3, ![8, 1, 1]⟩
abbrev S8x300x1 : Shape := ⟨3, ![8, 300, 1]⟩
abbrev S8x300x3 : Shape := ⟨3, ![8, 300, 3]⟩
abbrev S8x256x256 : Shape := ⟨3, ![8, 256, 256]⟩
abbrev S1x256 : Shape := ⟨2, ![1, 256]⟩
abbrev S8x256 : Shape := ⟨2, ![8, 256]⟩
abbrev S256x256 : Shape := ⟨2, ![256, 256]⟩
abbrev S1x1 : Shape := ⟨2, ![1, 1]⟩
abbrev S1x256x1 : Shape := ⟨3, ![1, 256, 1]⟩
abbrev S256x1 : Shape := ⟨2, ![256, 1]⟩
abbrev S1x1x256 : Shape := ⟨3, ![1, 1, 256]⟩
abbrev S1x256x256 : Shape := ⟨3, ![1, 256, 256]⟩
abbrev S8x1x256 : Shape := ⟨3, ![8, 1, 256]⟩
abbrev S8x1 : Shape := ⟨2, ![8, 1]⟩
abbrev S1x512x1 : Shape := ⟨3, ![1, 512, 1]⟩
abbrev S512x1 : Shape := ⟨2, ![512, 1]⟩
abbrev S512x256 : Shape := ⟨2, ![512, 256]⟩
abbrev S1x768x1 : Shape := ⟨3, ![1, 768, 1]⟩
abbrev S768x1 : Shape := ⟨2, ![768, 1]⟩
abbrev S768x256 : Shape := ⟨2, ![768, 256]⟩
abbrev S1x512 : Shape := ⟨2, ![1, 512]⟩
abbrev S1x1024x1 : Shape := ⟨3, ![1, 1024, 1]⟩
abbrev S1024x1 : Shape := ⟨2, ![1024, 1]⟩
abbrev S1024x256 : Shape := ⟨2, ![1024, 256]⟩
abbrev S1x768 : Shape := ⟨2, ![1, 768]⟩
abbrev S1x1280x1 : Shape := ⟨3, ![1, 1280, 1]⟩
abbrev S1280x1 : Shape := ⟨2, ![1280, 1]⟩
abbrev S1280x256 : Shape := ⟨2, ![1280, 256]⟩
abbrev S1x1024 : Shape := ⟨2, ![1, 1024]⟩
abbrev S1x1536x1 : Shape := ⟨3, ![1, 1536, 1]⟩
abbrev S1536x1 : Shape := ⟨2, ![1536, 1]⟩
abbrev S1536x256 : Shape := ⟨2, ![1536, 256]⟩
abbrev S1x1280 : Shape := ⟨2, ![1, 1280]⟩
abbrev S1x1792x1 : Shape := ⟨3, ![1, 1792, 1]⟩
abbrev S1792x1 : Shape := ⟨2, ![1792, 1]⟩
abbrev S1792x256 : Shape := ⟨2, ![1792, 256]⟩
abbrev S1x1536 : Shape := ⟨2, ![1, 1536]⟩
abbrev S1x2048x1 : Shape := ⟨3, ![1, 2048, 1]⟩
abbrev S2048x1 : Shape := ⟨2, ![2048, 1]⟩
abbrev S2048x256 : Shape := ⟨2, ![2048, 256]⟩
abbrev S1x1792 : Shape := ⟨2, ![1, 1792]⟩
abbrev S300x2048 : Shape := ⟨2, ![300, 2048]⟩
abbrev S1x2048 : Shape := ⟨2, ![1, 2048]⟩
abbrev S1x2048x2 : Shape := ⟨3, ![1, 2048, 2]⟩
abbrev S2048x2 : Shape := ⟨2, ![2048, 2]⟩
abbrev S300x2 : Shape := ⟨2, ![300, 2]⟩
abbrev S1x300x2 : Shape := ⟨3, ![1, 300, 2]⟩

abbrev nBuf : Space → Nat
  | .hbm => 84
  | .vmem => 15
  | .smem => 0
  | _ => 0

abbrev bufTy : (tb : Table) → Fin (tcTables nBuf tb) → BufTy
  | .hbm, ⟨0, _⟩ => ⟨S8x20x512x1x1, .f32⟩
  | .hbm, ⟨1, _⟩ => ⟨S8x20x512x1x1, .f32⟩
  | .hbm, ⟨2, _⟩ => ⟨S5120, .f32⟩
  | .hbm, ⟨3, _⟩ => ⟨S5120, .f32⟩
  | .hbm, ⟨4, _⟩ => ⟨S8x20x512, .f32⟩
  | .hbm, ⟨5, _⟩ => ⟨S8x10x512, .f32⟩
  | .hbm, ⟨6, _⟩ => ⟨S8x512x10, .f32⟩
  | .hbm, ⟨7, _⟩ => ⟨S8x5120, .f32⟩
  | .hbm, ⟨8, _⟩ => ⟨S8x20x512, .f32⟩
  | .hbm, ⟨9, _⟩ => ⟨S8x512x20, .f32⟩
  | .hbm, ⟨10, _⟩ => ⟨S8x5120x2, .f32⟩
  | .hbm, ⟨11, _⟩ => ⟨S8x5120x1, .f32⟩
  | .hbm, ⟨12, _⟩ => ⟨S8x5120, .f32⟩
  | .hbm, ⟨13, _⟩ => ⟨S8x5120x1, .f32⟩
  | .hbm, ⟨14, _⟩ => ⟨S8x5120, .f32⟩
  | .hbm, ⟨15, _⟩ => ⟨S1x5120, .f32⟩
  | .hbm, ⟨16, _⟩ => ⟨S1x5120, .f32⟩
  | .hbm, ⟨17, _⟩ => ⟨S8x5120, .f32⟩
  | .hbm, ⟨18, _⟩ => ⟨S8x5120, .f32⟩
  | .hbm, ⟨19, _⟩ => ⟨S8x5120, .f32⟩
  | .hbm, ⟨20, _⟩ => ⟨S8x2000, .f32⟩
  | .hbm, ⟨21, _⟩ => ⟨S8x2000, .i32⟩
  | .hbm, ⟨22, _⟩ => ⟨S_, .i32⟩
  | .hbm, ⟨23, _⟩ => ⟨S8x2000, .i32⟩
  | .hbm, ⟨24, _⟩ => ⟨S8x2000, .i1⟩
  | .hbm, ⟨25, _⟩ => ⟨S_, .i32⟩
  | .hbm, ⟨26, _⟩ => ⟨S8x2000, .i32⟩
  | .hbm, ⟨27, _⟩ => ⟨S8x2000, .i32⟩
  | .hbm, ⟨28, _⟩ => ⟨S8x2000, .i32⟩
  | .hbm, ⟨29, _⟩ => ⟨S8x2000x1, .i32⟩
  | .hbm, ⟨30, _⟩ => ⟨S1, .i32⟩
  | .hbm, ⟨31, _⟩ => ⟨S_, .i32⟩
  | .hbm, ⟨32, _⟩ => ⟨S8x2000x1, .i32⟩
  | .hbm, ⟨33, _⟩ => ⟨S8x2000x1, .i1⟩
  | .hbm, ⟨34, _⟩ => ⟨S1x1x1, .i32⟩
  | .hbm, ⟨35, _⟩ => ⟨S8x2000x1, .i32⟩
  | .hbm, ⟨36, _⟩ => ⟨S8x2000x1, .i1⟩
  | .hbm, ⟨37, _⟩ => ⟨S8x2000x1, .i1⟩
  | .hbm, ⟨38, _⟩ => ⟨S_, .i1⟩
  | .hbm, ⟨39, _⟩ => ⟨S8x2000, .i1⟩
  | .hbm, ⟨40, _⟩ => ⟨S8x2000, .f32⟩
  | .hbm, ⟨41, _⟩ => ⟨S_, .f32⟩
  | .hbm, ⟨42, _⟩ => ⟨S8x2000, .f32⟩
  | .hbm, ⟨43, _⟩ => ⟨S8x2000, .f32⟩
  | .hbm, ⟨44, _⟩ => ⟨S_, .i32⟩
  | .hbm, ⟨45, _⟩ => ⟨S8x2000, .i32⟩
  | .hbm, ⟨46, _⟩ => ⟨S8x2000, .i1⟩
  | .hbm, ⟨47, _⟩ => ⟨S_, .i32⟩
  | .hbm, ⟨48, _⟩ => ⟨S8x2000, .i32⟩
  | .hbm, ⟨49, _⟩ => ⟨S8x2000, .i32⟩
  | .hbm, ⟨50, _⟩ => ⟨S8x2000, .i32⟩
  | .hbm, ⟨51, _⟩ => ⟨S8x2000x1, .i32⟩
  | .hbm, ⟨52, _⟩ => ⟨S1, .i32⟩
  | .hbm, ⟨53, _⟩ => ⟨S_, .i32⟩
  | .hbm, ⟨54, _⟩ => ⟨S8x2000x1, .i32⟩
  | .hbm, ⟨55, _⟩ => ⟨S8x2000x1, .i1⟩
  | .hbm, ⟨56, _⟩ => ⟨S1x1x1, .i32⟩
  | .hbm, ⟨57, _⟩ => ⟨S8x2000x1, .i32⟩
  | .hbm, ⟨58, _⟩ => ⟨S8x2000x1, .i1⟩
  | .hbm, ⟨59, _⟩ => ⟨S8x2000x1, .i1⟩
  | .hbm, ⟨60, _⟩ => ⟨S_, .i1⟩
  | .hbm, ⟨61, _⟩ => ⟨S8x2000, .i1⟩
  | .hbm, ⟨62, _⟩ => ⟨S8x2000, .f32⟩
  | .hbm, ⟨63, _⟩ => ⟨S_, .f32⟩
  | .hbm, ⟨64, _⟩ => ⟨S8x2000, .f32⟩
  | .hbm, ⟨65, _⟩ => ⟨S8x2000, .f32⟩
  | .hbm, ⟨66, _⟩ => ⟨S_, .i32⟩
  | .hbm, ⟨67, _⟩ => ⟨S_, .f32⟩
  | .hbm, ⟨68, _⟩ => ⟨S8x2048, .f32⟩
  | .hbm, ⟨69, _⟩ => ⟨S_, .i32⟩
  | .hbm, ⟨70, _⟩ => ⟨S_, .f32⟩
  | .hbm, ⟨71, _⟩ => ⟨S8x2048, .f32⟩
  | .hbm, ⟨72, _⟩ => ⟨S8x2048x1, .f32⟩
  | .hbm, ⟨73, _⟩ => ⟨S8x2048x1, .f32⟩
  | .hbm, ⟨74, _⟩ => ⟨S8x2048x2, .f32⟩
  | .hbm, ⟨75, _⟩ => ⟨S8x2048x1, .f32⟩
  | .hbm, ⟨76, _⟩ => ⟨S8x2048x1, .f32⟩
  | .hbm, ⟨77, _⟩ => ⟨S8x1x2048, .f32⟩
  | .hbm, ⟨78, _⟩ => ⟨S8x1x2048, .f32⟩
  | .hbm, ⟨79, _⟩ => ⟨S8x300x2, .f32⟩
  | .hbm, ⟨80, _⟩ => ⟨S8, .f32⟩
  | .hbm, ⟨81, _⟩ => ⟨S8x1x1, .f32⟩
  | .hbm, ⟨82, _⟩ => ⟨S8x300x1, .f32⟩
  | .hbm, ⟨83, _⟩ => ⟨S8x300x3, .f32⟩
  | .local _ .vmem, ⟨0, _⟩ => ⟨S8x5120, .f32⟩
  | .local _ .vmem, ⟨1, _⟩ => ⟨S8x5120, .f32⟩
  | .local _ .vmem, ⟨2, _⟩ => ⟨S8x5120, .f32⟩
  | .local _ .vmem, ⟨3, _⟩ => ⟨S1x5120, .f32⟩
  | .local _ .vmem, ⟨4, _⟩ => ⟨S1x5120, .f32⟩
  | .local _ .vmem, ⟨5, _⟩ => ⟨S8x5120, .f32⟩
  | .local _ .vmem, ⟨6, _⟩ => ⟨S8x5120, .f32⟩
  | .local _ .vmem, ⟨7, _⟩ => ⟨S8x5120, .f32⟩
  | .local _ .vmem, ⟨8, _⟩ => ⟨S8x2048x1, .f32⟩
  | .local _ .vmem, ⟨9, _⟩ => ⟨S8x2048x1, .f32⟩
  | .local _ .vmem, ⟨10, _⟩ => ⟨S8x1x2048, .f32⟩
  | .local _ .vmem, ⟨11, _⟩ => ⟨S8x1x2048, .f32⟩
  | .local _ .vmem, ⟨12, _⟩ => ⟨S8x2048x2, .f32⟩
  | .local _ .vmem, ⟨13, _⟩ => ⟨S8x300x2, .f32⟩
  | .local _ .vmem, ⟨14, _⟩ => ⟨S8x256x256, .f32⟩
  | _, _ => ⟨S8x20x512x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_v13_0 : Ref sig .tc := ⟨.hbm, 17, rfl⟩
abbrev main_call0_v13_1 : Ref sig .tc := ⟨.hbm, 18, rfl⟩
abbrev main_call0_v13_2 : Ref sig .tc := ⟨.hbm, 19, rfl⟩
abbrev main_call0_values : Ref sig .tc := ⟨.hbm, 20, rfl⟩
abbrev main_call0_indices : Ref sig .tc := ⟨.hbm, 21, rfl⟩
abbrev main_call0_call0_c : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_c_0 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_c_1 : Ref sig .tc := ⟨.hbm, 30, rfl⟩
abbrev main_call0_call0_c_2 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_call0_c_3 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_cst : Ref sig .tc := ⟨.hbm, 41, rfl⟩
abbrev main_call0_call0_v14 : Ref sig .tc := ⟨.hbm, 42, rfl⟩
abbrev main_call0_v14 : Ref sig .tc := ⟨.hbm, 43, rfl⟩
abbrev main_call0_call1_c : Ref sig .tc := ⟨.hbm, 44, rfl⟩
abbrev main_call0_call1_v0 : Ref sig .tc := ⟨.hbm, 45, rfl⟩
abbrev main_call0_call1_v1 : Ref sig .tc := ⟨.hbm, 46, rfl⟩
abbrev main_call0_call1_c_0 : Ref sig .tc := ⟨.hbm, 47, rfl⟩
abbrev main_call0_call1_v2 : Ref sig .tc := ⟨.hbm, 48, rfl⟩
abbrev main_call0_call1_v3 : Ref sig .tc := ⟨.hbm, 49, rfl⟩
abbrev main_call0_call1_v4 : Ref sig .tc := ⟨.hbm, 50, rfl⟩
abbrev main_call0_call1_v5 : Ref sig .tc := ⟨.hbm, 51, rfl⟩
abbrev main_call0_call1_c_1 : Ref sig .tc := ⟨.hbm, 52, rfl⟩
abbrev main_call0_call1_c_2 : Ref sig .tc := ⟨.hbm, 53, rfl⟩
abbrev main_call0_call1_v6 : Ref sig .tc := ⟨.hbm, 54, rfl⟩
abbrev main_call0_call1_v7 : Ref sig .tc := ⟨.hbm, 55, rfl⟩
abbrev main_call0_call1_v8 : Ref sig .tc := ⟨.hbm, 56, rfl⟩
abbrev main_call0_call1_v9 : Ref sig .tc := ⟨.hbm, 57, rfl⟩
abbrev main_call0_call1_v10 : Ref sig .tc := ⟨.hbm, 58, rfl⟩
abbrev main_call0_call1_v11 : Ref sig .tc := ⟨.hbm, 59, rfl⟩
abbrev main_call0_call1_c_3 : Ref sig .tc := ⟨.hbm, 60, rfl⟩
abbrev main_call0_call1_v12 : Ref sig .tc := ⟨.hbm, 61, rfl⟩
abbrev main_call0_call1_v13 : Ref sig .tc := ⟨.hbm, 62, rfl⟩
abbrev main_call0_call1_cst : Ref sig .tc := ⟨.hbm, 63, rfl⟩
abbrev main_call0_call1_v14 : Ref sig .tc := ⟨.hbm, 64, rfl⟩
abbrev main_call0_v15 : Ref sig .tc := ⟨.hbm, 65, rfl⟩
abbrev main_call0_c : Ref sig .tc := ⟨.hbm, 66, rfl⟩
abbrev main_call0_call2_v0 : Ref sig .tc := ⟨.hbm, 67, rfl⟩
abbrev main_call0_v16 : Ref sig .tc := ⟨.hbm, 68, rfl⟩
abbrev main_call0_c_1 : Ref sig .tc := ⟨.hbm, 69, rfl⟩
abbrev main_call0_call3_v0 : Ref sig .tc := ⟨.hbm, 70, rfl⟩
abbrev main_call0_v17 : Ref sig .tc := ⟨.hbm, 71, rfl⟩
abbrev main_call0_v18 : Ref sig .tc := ⟨.hbm, 72, rfl⟩
abbrev main_call0_v19 : Ref sig .tc := ⟨.hbm, 73, rfl⟩
abbrev main_call0_v20 : Ref sig .tc := ⟨.hbm, 74, rfl⟩
abbrev main_call0_v21 : Ref sig .tc := ⟨.hbm, 75, rfl⟩
abbrev main_call0_v22 : Ref sig .tc := ⟨.hbm, 76, rfl⟩
abbrev main_call0_v23 : Ref sig .tc := ⟨.hbm, 77, rfl⟩
abbrev main_call0_v24 : Ref sig .tc := ⟨.hbm, 78, rfl⟩
abbrev main_call0_v25 : Ref sig .tc := ⟨.hbm, 79, rfl⟩
abbrev main_call0_v26 : Ref sig .tc := ⟨.hbm, 80, rfl⟩
abbrev main_call0_v27 : Ref sig .tc := ⟨.hbm, 81, rfl⟩
abbrev main_call0_v28 : Ref sig .tc := ⟨.hbm, 82, rfl⟩
abbrev main_v0 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13

abbrev nD : Nat := 1
abbrev τ : Topo := Topo.v7x

variable {F : FTy → Type} [FloatOps F]

abbrev grid0 : Pipeline.Grid := .none

abbrev stage0_0 : Fin 1 → Memref sig .tc .vmem S8x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := .none

@[reducible] def k1_t1_loop : Scf.Loop 32 :=
  let c0_i32_40 : BitVec 32 := 0#32
  let c256_i32 : BitVec 32 := 256#32
  let v308 : BitVec 32 := Scalar.addi c0_i32_40 c256_i32
  let c1_i32 : BitVec 32 := 1#32
  ⟨c0_i32_40, v308, c1_i32⟩
def k1_off1 (k1_t1 : Fin k1_t1_loop.trips) : Fin 3 → Nat :=
  let c0_508 : Index := 0#32
  let c0_i32_40 : BitVec 32 := 0#32
  let c1_i32 : BitVec 32 := 1#32
  let arg7 : BitVec 32 := Scf.iv c0_i32_40 c1_i32 k1_t1
  let v3315 : Index := Scalar.indexCast arg7
  let c0_509 : Index := 0#32
  ![0, v3315.toNat, 0]
@[reducible] def k1_t2_loop : Scf.Loop 32 :=
  let c0_i32_95 : BitVec 32 := 0#32
  let c256_i32_96 : BitVec 32 := 256#32
  let v705 : BitVec 32 := Scalar.addi c0_i32_95 c256_i32_96
  let c1_i32_97 : BitVec 32 := 1#32
  ⟨c0_i32_95, v705, c1_i32_97⟩
def k1_off2 (k1_t2 : Fin k1_t2_loop.trips) : Fin 3 → Nat :=
  let c0_508 : Index := 0#32
  let c0_i32_95 : BitVec 32 := 0#32
  let c1_i32_97 : BitVec 32 := 1#32
  let arg7 : BitVec 32 := Scf.iv c0_i32_95 c1_i32_97 k1_t2
  let v3315 : Index := Scalar.indexCast arg7
  let c0_509 : Index := 0#32
  ![0, v3315.toNat, 0]
@[reducible] def k1_t3_loop : Scf.Loop 32 :=
  let c0_i32_151 : BitVec 32 := 0#32
  let c256_i32_152 : BitVec 32 := 256#32
  let v1110 : BitVec 32 := Scalar.addi c0_i32_151 c256_i32_152
  let c1_i32_153 : BitVec 32 := 1#32
  ⟨c0_i32_151, v1110, c1_i32_153⟩
def k1_off3 (k1_t3 : Fin k1_t3_loop.trips) : Fin 3 → Nat :=
  let c0_508 : Index := 0#32
  let c0_i32_151 : BitVec 32 := 0#32
  let c1_i32_153 : BitVec 32 := 1#32
  let arg7 : BitVec 32 := Scf.iv c0_i32_151 c1_i32_153 k1_t3
  let v3315 : Index := Scalar.indexCast arg7
  let c0_509 : Index := 0#32
  ![0, v3315.toNat, 0]
@[reducible] def k1_t4_loop : Scf.Loop 32 :=
  let c0_i32_207 : BitVec 32 := 0#32
  let c256_i32_208 : BitVec 32 := 256#32
  let v1515 : BitVec 32 := Scalar.addi c0_i32_207 c256_i32_208
  let c1_i32_209 : BitVec 32 := 1#32
  ⟨c0_i32_207, v1515, c1_i32_209⟩
def k1_off4 (k1_t4 : Fin k1_t4_loop.trips) : Fin 3 → Nat :=
  let c0_508 : Index := 0#32
  let c0_i32_207 : BitVec 32 := 0#32
  let c1_i32_209 : BitVec 32 := 1#32
  let arg7 : BitVec 32 := Scf.iv c0_i32_207 c1_i32_209 k1_t4
  let v3315 : Index := Scalar.indexCast arg7
  let c0_509 : Index := 0#32
  ![0, v3315.toNat, 0]
@[reducible] def k1_t5_loop : Scf.Loop 32 :=
  let c0_i32_263 : BitVec 32 := 0#32
  let c256_i32_264 : BitVec 32 := 256#32
  let v1920 : BitVec 32 := Scalar.addi c0_i32_263 c256_i32_264
  let c1_i32_265 : BitVec 32 := 1#32
  ⟨c0_i32_263, v1920, c1_i32_265⟩
def k1_off5 (k1_t5 : Fin k1_t5_loop.trips) : Fin 3 → Nat :=
  let c0_508 : Index := 0#32
  let c0_i32_263 : BitVec 32 := 0#32
  let c1_i32_265 : BitVec 32 := 1#32
  let arg7 : BitVec 32 := Scf.iv c0_i32_263 c1_i32_265 k1_t5
  let v3315 : Index := Scalar.indexCast arg7
  let c0_509 : Index := 0#32
  ![0, v3315.toNat, 0]
@[reducible] def k1_t6_loop : Scf.Loop 32 :=
  let c0_i32_319 : BitVec 32 := 0#32
  let c256_i32_320 : BitVec 32 := 256#32
  let v2325 : BitVec 32 := Scalar.addi c0_i32_319 c256_i32_320
  let c1_i32_321 : BitVec 32 := 1#32
  ⟨c0_i32_319, v2325, c1_i32_321⟩
def k1_off6 (k1_t6 : Fin k1_t6_loop.trips) : Fin 3 → Nat :=
  let c0_508 : Index := 0#32
  let c0_i32_319 : BitVec 32 := 0#32
  let c1_i32_321 : BitVec 32 := 1#32
  let arg7 : BitVec 32 := Scf.iv c0_i32_319 c1_i32_321 k1_t6
  let v3315 : Index := Scalar.indexCast arg7
  let c0_509 : Index := 0#32
  ![0, v3315.toNat, 0]
@[reducible] def k1_t7_loop : Scf.Loop 32 :=
  let c0_i32_375 : BitVec 32 := 0#32
  let c256_i32_376 : BitVec 32 := 256#32
  let v2730 : BitVec 32 := Scalar.addi c0_i32_375 c256_i32_376
  let c1_i32_377 : BitVec 32 := 1#32
  ⟨c0_i32_375, v2730, c1_i32_377⟩
def k1_off7 (k1_t7 : Fin k1_t7_loop.trips) : Fin 3 → Nat :=
  let c0_508 : Index := 0#32
  let c0_i32_375 : BitVec 32 := 0#32
  let c1_i32_377 : BitVec 32 := 1#32
  let arg7 : BitVec 32 := Scf.iv c0_i32_375 c1_i32_377 k1_t7
  let v3315 : Index := Scalar.indexCast arg7
  let c0_509 : Index := 0#32
  ![0, v3315.toNat, 0]
@[reducible] def k1_t8_loop : Scf.Loop 32 :=
  let c0_i32_431 : BitVec 32 := 0#32
  let c256_i32_432 : BitVec 32 := 256#32
  let v3135 : BitVec 32 := Scalar.addi c0_i32_431 c256_i32_432
  let c1_i32_433 : BitVec 32 := 1#32
  ⟨c0_i32_431, v3135, c1_i32_433⟩
def k1_off8 (k1_t8 : Fin k1_t8_loop.trips) : Fin 3 → Nat :=
  let c0_508 : Index := 0#32
  let c0_i32_431 : BitVec 32 := 0#32
  let c1_i32_433 : BitVec 32 := 1#32
  let arg7 : BitVec 32 := Scf.iv c0_i32_431 c1_i32_433 k1_t8
  let v3315 : Index := Scalar.indexCast arg7
  let c0_509 : Index := 0#32
  ![0, v3315.toNat, 0]
abbrev stage1_0 : Fin 1 → Memref sig .tc .vmem S8x2048x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x2048x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x2048x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x300x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== ReferenceIdeal.lean ====
abbrev S8x20x512x1x1 : Shape := ⟨5, ![8, 20, 512, 1, 1]⟩
abbrev S10x2 : Shape := ⟨2, ![10, 2]⟩
abbrev S512 : Shape := ⟨1, ![512]⟩
abbrev S_ : Shape := ⟨0, ![]⟩
abbrev S1x10x2 : Shape := ⟨3, ![1, 10, 2]⟩
abbrev S512x1x1 : Shape := ⟨3, ![512, 1, 1]⟩
abbrev S512x10x2 : Shape := ⟨3, ![512, 10, 2]⟩
abbrev S5120x2 : Shape := ⟨2, ![5120, 2]⟩
abbrev S1x5120x2 : Shape := ⟨3, ![1, 5120, 2]⟩
abbrev S8x5120x2 : Shape := ⟨3, ![8, 5120, 2]⟩
abbrev S8x10x512x1x1 : Shape := ⟨5, ![8, 10, 512, 1, 1]⟩
abbrev S8x512x1x1x10 : Shape := ⟨5, ![8, 512, 1, 1, 10]⟩
abbrev S8x5120 : Shape := ⟨2, ![8, 5120]⟩
abbrev S8x512x1x1x20 : Shape := ⟨5, ![8, 512, 1, 1, 20]⟩
abbrev S8x5120x1 : Shape := ⟨3, ![8, 5120, 1]⟩
abbrev S8x2000 : Shape := ⟨2, ![8, 2000]⟩
abbrev S8x2000x1 : Shape := ⟨3, ![8, 2000, 1]⟩
abbrev S1 : Shape := ⟨1, ![1]⟩
abbrev S1x1x1 : Shape := ⟨3, ![1, 1, 1]⟩
abbrev S8x2000x2 : Shape := ⟨3, ![8, 2000, 2]⟩
abbrev S8x1x2000 : Shape := ⟨3, ![8, 1, 2000]⟩
abbrev S8x2000x2000 : Shape := ⟨3, ![8, 2000, 2000]⟩
abbrev S2000 : Shape := ⟨1, ![2000]⟩
abbrev S1x2000 : Shape := ⟨2, ![1, 2000]⟩
abbrev S8x1 : Shape := ⟨2, ![8, 1]⟩
abbrev S8 : Shape := ⟨1, ![8]⟩
abbrev S8x300 : Shape := ⟨2, ![8, 300]⟩
abbrev S300 : Shape := ⟨1, ![300]⟩
abbrev S1x300 : Shape := ⟨2, ![1, 300]⟩
abbrev S8x300x1 : Shape := ⟨3, ![8, 300, 1]⟩
abbrev S8x300x2 : Shape := ⟨3, ![8, 300, 2]⟩
abbrev S8x1x1 : Shape := ⟨3, ![8, 1, 1]⟩
abbrev S8x300x3 : Shape := ⟨3, ![8, 300, 3]⟩

abbrev nBuf : Space → Nat
  | .hbm => 254
  | .vmem => 0
  | .smem => 0
  | _ => 0

abbrev hbmTy0_0 (i : Nat) : BufTy := match i % 128 with
  | 0 => ⟨S8x20x512x1x1, .f32⟩
  | 1 => ⟨S8x20x512x1x1, .f32⟩
  | 2 => ⟨S10x2, .f32⟩
  | 3 => ⟨S512, .f32⟩
  | 4 => ⟨S_, .f32⟩
  | 5 => ⟨S512, .f32⟩
  | 6 => ⟨S512, .f32⟩
  | 7 => ⟨S1x10x2, .f32⟩
  | 8 => ⟨S512x1x1, .f32⟩
  | 9 => ⟨S512x10x2, .f32⟩
  | 10 => ⟨S512x10x2, .f32⟩
  | 11 => ⟨S512x10x2, .f32⟩
  | 12 => ⟨S5120x2, .f32⟩
  | 13 => ⟨S1x5120x2, .f32⟩
  | 14 => ⟨S8x5120x2, .f32⟩
  | 15 => ⟨S8x10x512x1x1, .f32⟩
  | 16 => ⟨S8x512x1x1x10, .f32⟩
  | 17 => ⟨S8x5120, .f32⟩
  | 18 => ⟨S8x512x1x1x20, .f32⟩
  | 19 => ⟨S8x5120x2, .f32⟩
  | 20 => ⟨S8x5120x1, .f32⟩
  | 21 => ⟨S8x5120, .f32⟩
  | 22 => ⟨S8x5120x1, .f32⟩
  | 23 => ⟨S8x5120, .f32⟩
  | 24 => ⟨S8x5120, .f32⟩
  | 25 => ⟨S_, .f32⟩
  | 26 => ⟨S8x5120, .f32⟩
  | 27 => ⟨S8x5120, .f32⟩
  | 28 => ⟨S8x5120x1, .f32⟩
  | 29 => ⟨S8x5120, .f32⟩
  | 30 => ⟨S_, .f32⟩
  | 31 => ⟨S8x5120, .f32⟩
  | 32 => ⟨S8x5120, .f32⟩
  | 33 => ⟨S8x5120, .f32⟩
  | 34 => ⟨S8x5120x1, .f32⟩
  | 35 => ⟨S8x5120, .f32⟩
  | 36 => ⟨S8x5120x1, .f32⟩
  | 37 => ⟨S8x5120, .f32⟩
  | 38 => ⟨S8x5120, .f32⟩
  | 39 => ⟨S8x5120, .f32⟩
  | 40 => ⟨S8x5120, .f32⟩
  | 41 => ⟨S8x5120, .f32⟩
  | 42 => ⟨S_, .f32⟩
  | 43 => ⟨S8x5120, .f32⟩
  | 44 => ⟨S8x5120, .f32⟩
  | 45 => ⟨S8x5120, .f32⟩
  | 46 => ⟨S_, .f32⟩
  | 47 => ⟨S8x5120, .f32⟩
  | 48 => ⟨S8x5120, .f32⟩
  | 49 => ⟨S8x5120, .f32⟩
  | 50 => ⟨S8x5120x1, .f32⟩
  | 51 => ⟨S8x5120x1, .f32⟩
  | 52 => ⟨S8x5120x2, .f32⟩
  | 53 => ⟨S_, .f32⟩
  | 54 => ⟨S_, .f32⟩
  | 55 => ⟨S_, .f32⟩
  | 56 => ⟨S8x5120x2, .f32⟩
  | 57 => ⟨S8x5120x2, .f32⟩
  | 58 => ⟨S_, .f32⟩
  | 59 => ⟨S8x5120x2, .f32⟩
  | 60 => ⟨S8x5120x2, .f32⟩
  | 61 => ⟨S8x5120x1, .f32⟩
  | 62 => ⟨S8x5120, .f32⟩
  | 63 => ⟨S8x5120x1, .f32⟩
  | 64 => ⟨S8x5120, .f32⟩
  | 65 => ⟨S8x5120, .f32⟩
  | 66 => ⟨S_, .f32⟩
  | 67 => ⟨S8x5120, .f32⟩
  | 68 => ⟨S8x5120, .f32⟩
  | 69 => ⟨S_, .f32⟩
  | 70 => ⟨S8x5120, .f32⟩
  | 71 => ⟨S8x5120, .i1⟩
  | 72 => ⟨S_, .f32⟩
  | 73 => ⟨S_, .f32⟩
  | 74 => ⟨S8x5120, .f32⟩
  | 75 => ⟨S8x5120, .f32⟩
  | 76 => ⟨S8x5120, .f32⟩
  | 77 => ⟨S8x5120, .i32⟩
  | 78 => ⟨S8x5120, .f32⟩
  | 79 => ⟨S8x5120, .i32⟩
  | 80 => ⟨S8x2000, .i32⟩
  | 81 => ⟨S8x2000x1, .i32⟩
  | 82 => ⟨S_, .i32⟩
  | 83 => ⟨S8x2000x1, .i32⟩
  | 84 => ⟨S8x2000x1, .i1⟩
  | 85 => ⟨S_, .i32⟩
  | 86 => ⟨S8x2000x1, .i32⟩
  | 87 => ⟨S8x2000x1, .i32⟩
  | 88 => ⟨S8x2000x1, .i32⟩
  | 89 => ⟨S1, .i32⟩
  | 90 => ⟨S_, .i32⟩
  | 91 => ⟨S8x2000x1, .i32⟩
  | 92 => ⟨S8x2000x1, .i1⟩
  | 93 => ⟨S1x1x1, .i32⟩
  | 94 => ⟨S8x2000x1, .i32⟩
  | 95 => ⟨S8x2000x1, .i1⟩
  | 96 => ⟨S8x2000x1, .i1⟩
  | 97 => ⟨S_, .i1⟩
  | 98 => ⟨S8x2000, .i1⟩
  | 99 => ⟨S8x2000x2, .f32⟩
  | 100 => ⟨S8x2000x2, .i1⟩
  | 101 => ⟨S_, .f32⟩
  | 102 => ⟨S8x2000x2, .f32⟩
  | 103 => ⟨S8x2000x2, .f32⟩
  | 104 => ⟨S8x2000x1, .f32⟩
  | 105 => ⟨S8x2000, .f32⟩
  | 106 => ⟨S8x2000x1, .f32⟩
  | 107 => ⟨S8x2000, .f32⟩
  | 108 => ⟨S8x2000, .f32⟩
  | 109 => ⟨S_, .f32⟩
  | 110 => ⟨S8x2000, .f32⟩
  | 111 => ⟨S8x2000, .f32⟩
  | 112 => ⟨S8x2000x1, .f32⟩
  | 113 => ⟨S8x1x2000, .f32⟩
  | 114 => ⟨S8x2000x2000, .f32⟩
  | 115 => ⟨S8x2000x2000, .f32⟩
  | 116 => ⟨S8x2000x2000, .f32⟩
  | 117 => ⟨S8x2000x1, .f32⟩
  | 118 => ⟨S8x1x2000, .f32⟩
  | 119 => ⟨S8x2000x2000, .f32⟩
  | 120 => ⟨S8x2000x2000, .f32⟩
  | 121 => ⟨S8x2000x2000, .f32⟩
  | 122 => ⟨S8x2000x2000, .f32⟩
  | 123 => ⟨S_, .f32⟩
  | 124 => ⟨S8x2000x2000, .f32⟩
  | 125 => ⟨S8x2000x2000, .f32⟩
  | 126 => ⟨S_, .f32⟩
  | 127 => ⟨S_, .f32⟩
  | _ => ⟨S8x20x512x1x1, .f32⟩

abbrev hbmTy0_1 (i : Nat) : BufTy := match i % 128 with
  | 0 => ⟨S8x2000x2000, .f32⟩
  | 1 => ⟨S8x2000x2000, .f32⟩
  | 2 => ⟨S8x2000x1, .f32⟩
  | 3 => ⟨S8x1x2000, .f32⟩
  | 4 => ⟨S8x2000x2000, .f32⟩
  | 5 => ⟨S8x2000x2000, .f32⟩
  | 6 => ⟨S8x2000x2000, .f32⟩
  | 7 => ⟨S8x2000x2000, .f32⟩
  | 8 => ⟨S8x2000x2000, .f32⟩
  | 9 => ⟨S2000, .i32⟩
  | 10 => ⟨S_, .i1⟩
  | 11 => ⟨S8x2000, .i1⟩
  | 12 => ⟨S_, .i32⟩
  | 13 => ⟨S_, .i32⟩
  | 14 => ⟨S8x2000x2000, .f32⟩
  | 15 => ⟨S2000, .i32⟩
  | 16 => ⟨S_, .i32⟩
  | 17 => ⟨S_, .i32⟩
  | 18 => ⟨S8x2000, .i1⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S8x1x2000, .f32⟩
  | 46 => ⟨S8x2000, .f32⟩
  | 47 => ⟨S_, .f32⟩
  | 48 => ⟨S8x2000, .f32⟩
  | 49 => ⟨S8x2000, .i1⟩
  | 50 => ⟨S_, .i32⟩
  | 51 => ⟨S2000, .i32⟩
  | 52 => ⟨S2000, .i1⟩
  | 53 => ⟨S1x2000, .i1⟩
  | 54 => ⟨S8x2000, .i1⟩
  | 55 => ⟨S8x2000, .i1⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S8x1, .i1⟩
  | 71 => ⟨S8, .i1⟩
  | 72 => ⟨S8x1, .i1⟩
  | 73 => ⟨S8x2000, .i1⟩
  | 74 => ⟨S8x2000, .i1⟩
  | 75 => ⟨S8x2000, .i1⟩
  | 76 => ⟨S8x2000, .i1⟩
  | 77 => ⟨S_, .i32⟩
  | 78 => ⟨S_, .i32⟩
  | 79 => ⟨S8x2000, .i32⟩
  | 80 => ⟨S_, .i32⟩
  | 81 => ⟨S8, .i32⟩
  | 82 => ⟨S8x2000, .i1⟩
  | 83 => ⟨S8x2000, .i32⟩
  | 84 => ⟨S8x2000, .i1⟩
  | 85 => ⟨S8x2000, .i32⟩
  | 86 => ⟨S8x300, .i32⟩
  | 87 => ⟨S300, .i32⟩
  | 88 => ⟨S1x300, .i32⟩
  | 89 => ⟨S8x1, .i32⟩
  | 90 => ⟨S8x300, .i32⟩
  | 91 => ⟨S8x300, .i32⟩
  | 92 => ⟨S8x300, .i1⟩
  | 93 => ⟨S8x300x1, .i32⟩
  | 94 => ⟨S_, .i32⟩
  | 95 => ⟨S8x300x1, .i32⟩
  | 96 => ⟨S8x300x1, .i1⟩
  | 97 => ⟨S_, .i32⟩
  | 98 => ⟨S8x300x1, .i32⟩
  | 99 => ⟨S8x300x1, .i32⟩
  | 100 => ⟨S8x300x1, .i32⟩
  | 101 => ⟨S1, .i32⟩
  | 102 => ⟨S_, .i32⟩
  | 103 => ⟨S8x300x1, .i32⟩
  | 104 => ⟨S8x300x1, .i1⟩
  | 105 => ⟨S1x1x1, .i32⟩
  | 106 => ⟨S8x300x1, .i32⟩
  | 107 => ⟨S8x300x1, .i1⟩
  | 108 => ⟨S8x300x1, .i1⟩
  | 109 => ⟨S_, .i1⟩
  | 110 => ⟨S8x300, .i1⟩
  | 111 => ⟨S8x300x2, .f32⟩
  | 112 => ⟨S8x300x2, .i1⟩
  | 113 => ⟨S_, .f32⟩
  | 114 => ⟨S8x300x2, .f32⟩
  | 115 => ⟨S8x300x2, .f32⟩
  | 116 => ⟨S8x300x1, .i1⟩
  | 117 => ⟨S_, .f32⟩
  | 118 => ⟨S_, .f32⟩
  | 119 => ⟨S8x300x2, .i1⟩
  | 120 => ⟨S8x300x2, .f32⟩
  | 121 => ⟨S8x300x2, .f32⟩
  | 122 => ⟨S8, .f32⟩
  | 123 => ⟨S8x1x1, .f32⟩
  | 124 => ⟨S8x300x1, .f32⟩
  | 125 => ⟨S8x300x3, .f32⟩
  | _ => ⟨S8x20x512x1x1, .f32⟩

abbrev hbmTy (i : Nat) : BufTy := match i / 128 with
  | 0 => hbmTy0_0 i
  | 1 => hbmTy0_1 i
  | _ => ⟨S8x20x512x1x1, .f32⟩

abbrev bufTy : (tb : Table) → Fin (tcTables nBuf tb) → BufTy
  | .hbm, ⟨i, _⟩ => hbmTy i
  | _, _ => ⟨S8x20x512x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_3 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_4 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_5 : Ref sig .tc := ⟨.hbm, 53, rfl⟩
abbrev main_cst_6 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_call1_v0 : Ref sig .tc := ⟨.hbm, 73, rfl⟩
abbrev main_call1_v1 : Ref sig .tc := ⟨.hbm, 74, rfl⟩
abbrev main_v55 : Ref sig .tc := ⟨.hbm, 75, rfl⟩
abbrev main_v56 : Ref sig .tc := ⟨.hbm, 76, rfl⟩
abbrev main_call2_v0 : Ref sig .tc := ⟨.hbm, 77, rfl⟩
abbrev main_call2_v1_0 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_c_1 : Ref sig .tc := ⟨.hbm, 89, rfl⟩
abbrev main_call3_c_2 : Ref sig .tc := ⟨.hbm, 90, rfl⟩
abbrev main_call3_v5 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_c_3 : Ref sig .tc := ⟨.hbm, 97, rfl⟩
abbrev main_call3_v11 : Ref sig .tc := ⟨.hbm, 98, rfl⟩
abbrev main_call3_v12 : Ref sig .tc := ⟨.hbm, 99, rfl⟩
abbrev main_call3_v13 : Ref sig .tc := ⟨.hbm, 100, rfl⟩
abbrev main_call3_cst : Ref sig .tc := ⟨.hbm, 101, rfl⟩
abbrev main_call3_v14 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_10 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_11 : Ref sig .tc := ⟨.hbm, 123, rfl⟩
abbrev main_v79 : Ref sig .tc := ⟨.hbm, 124, rfl⟩
abbrev main_v80 : Ref sig .tc := ⟨.hbm, 125, rfl⟩
abbrev main_cst_12 : Ref sig .tc := ⟨.hbm, 126, rfl⟩
abbrev main_call4_v0 : Ref sig .tc := ⟨.hbm, 127, rfl⟩
abbrev main_call4_v1 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_c : Ref sig .tc := ⟨.hbm, 138, rfl⟩
abbrev main_v90 : Ref sig .tc := ⟨.hbm, 139, rfl⟩
abbrev main_c_13 : Ref sig .tc := ⟨.hbm, 140, rfl⟩
abbrev main_c_14 : Ref sig .tc := ⟨.hbm, 141, rfl⟩
abbrev main_v91_0 : Ref sig .tc := ⟨.hbm, 142, rfl⟩
abbrev main_v91_1 : Ref sig .tc := ⟨.hbm, 143, rfl⟩
abbrev main_v91_2 : Ref sig .tc := ⟨.hbm, 144, rfl⟩
abbrev main_v91_3 : Ref sig .tc := ⟨.hbm, 145, rfl⟩
abbrev main_v91_4 : Ref sig .tc := ⟨.hbm, 146, rfl⟩
abbrev main_while0c_c_21 : Ref sig .tc := ⟨.hbm, 147, rfl⟩
abbrev main_while0c_v111 : Ref sig .tc := ⟨.hbm, 148, rfl⟩
abbrev main_while0b_c_21 : Ref sig .tc := ⟨.hbm, 149, rfl⟩
abbrev main_while0b_v111 : Ref sig .tc := ⟨.hbm, 150, rfl⟩
abbrev main_while0b_v112 : Ref sig .tc := ⟨.hbm, 151, rfl⟩
abbrev main_while0b_c_22 : Ref sig .tc := ⟨.hbm, 152, rfl⟩
abbrev main_while0b_c_23 : Ref sig .tc := ⟨.hbm, 153, rfl⟩
abbrev main_while0b_v113 : Ref sig .tc := ⟨.hbm, 154, rfl⟩
abbrev main_while0b_c_24 : Ref sig .tc := ⟨.hbm, 155, rfl⟩
abbrev main_while0b_c_25 : Ref sig .tc := ⟨.hbm, 156, rfl⟩
abbrev main_while0b_v114 : Ref sig .tc := ⟨.hbm, 157, rfl⟩
abbrev main_while0b_c_26 : Ref sig .tc := ⟨.hbm, 158, rfl⟩
abbrev main_while0b_v115 : Ref sig .tc := ⟨.hbm, 159, rfl⟩
abbrev main_while0b_c_27 : Ref sig .tc := ⟨.hbm, 160, rfl⟩
abbrev main_while0b_v116 : Ref sig .tc := ⟨.hbm, 161, rfl⟩
abbrev main_while0b_c_28 : Ref sig .tc := ⟨.hbm, 162, rfl⟩
abbrev main_while0b_v117 : Ref sig .tc := ⟨.hbm, 163, rfl⟩
abbrev main_while0b_v118 : Ref sig .tc := ⟨.hbm, 164, rfl⟩
abbrev main_while0b_c_29 : Ref sig .tc := ⟨.hbm, 165, rfl⟩
abbrev main_while0b_c_30 : Ref sig .tc := ⟨.hbm, 166, rfl⟩
abbrev main_while0b_v119 : Ref sig .tc := ⟨.hbm, 167, rfl⟩
abbrev main_while0b_c_31 : Ref sig .tc := ⟨.hbm, 168, rfl⟩
abbrev main_while0b_c_32 : Ref sig .tc := ⟨.hbm, 169, rfl⟩
abbrev main_while0b_v120 : Ref sig .tc := ⟨.hbm, 170, rfl⟩
abbrev main_while0b_c_33 : Ref sig .tc := ⟨.hbm, 171, rfl⟩
abbrev main_while0b_v121 : Ref sig .tc := ⟨.hbm, 172, rfl⟩
abbrev main_while0b_v122 : Ref sig .tc := ⟨.hbm, 173, rfl⟩
abbrev main_while0b_v123 : Ref sig .tc := ⟨.hbm, 174, rfl⟩
abbrev main_while0b_cst_34 : Ref sig .tc := ⟨.hbm, 175, rfl⟩
abbrev main_while0b_v124 : Ref sig .tc := ⟨.hbm, 176, rfl⟩
abbrev main_while0b_v125 : Ref sig .tc := ⟨.hbm, 177, rfl⟩
abbrev main_while0b_v126 : Ref sig .tc := ⟨.hbm, 178, rfl⟩
abbrev main_while0b_v127 : Ref sig .tc := ⟨.hbm, 179, rfl⟩
abbrev main_while0b_v128 : Ref sig .tc := ⟨.hbm, 180, rfl⟩
abbrev main_while0b_v129 : Ref sig .tc := ⟨.hbm, 181, rfl⟩
abbrev main_while0b_v130 : Ref sig .tc := ⟨.hbm, 182, rfl⟩
abbrev main_while0b_v131 : Ref sig .tc := ⟨.hbm, 183, rfl⟩
abbrev main_while0b_v132 : Ref sig .tc := ⟨.hbm, 184, rfl⟩
abbrev main_while0b_c_35 : Ref sig .tc := ⟨.hbm, 185, rfl⟩
abbrev main_while0b_c_36 : Ref sig .tc := ⟨.hbm, 186, rfl⟩
abbrev main_while0b_v133 : Ref sig .tc := ⟨.hbm, 187, rfl⟩
abbrev main_while0b_c_37 : Ref sig .tc := ⟨.hbm, 188, rfl⟩
abbrev main_while0b_c_38 : Ref sig .tc := ⟨.hbm, 189, rfl⟩
abbrev main_while0b_v134 : Ref sig .tc := ⟨.hbm, 190, rfl⟩
abbrev main_while0b_c_39 : Ref sig .tc := ⟨.hbm, 191, rfl⟩
abbrev main_while0b_v135 : Ref sig .tc := ⟨.hbm, 192, rfl⟩
abbrev main_while0b_c_40 : Ref sig .tc := ⟨.hbm, 193, rfl⟩
abbrev main_while0b_v136 : Ref sig .tc := ⟨.hbm, 194, rfl⟩
abbrev main_while0b_c_41 : Ref sig .tc := ⟨.hbm, 195, rfl⟩
abbrev main_while0b_v137 : Ref sig .tc := ⟨.hbm, 196, rfl⟩
abbrev main_while0b_v138 : Ref sig .tc := ⟨.hbm, 197, rfl⟩
abbrev main_while0b_v139 : Ref sig .tc := ⟨.hbm, 198, rfl⟩
abbrev main_while0b_v140 : Ref sig .tc := ⟨.hbm, 199, rfl⟩
abbrev main_while0b_v141 : Ref sig .tc := ⟨.hbm, 200, rfl⟩
abbrev main_while0b_v142 : Ref sig .tc := ⟨.hbm, 201, rfl⟩
abbrev main_while0b_v143 : Ref sig .tc := ⟨.hbm, 202, rfl⟩
abbrev main_while0b_v144 : Ref sig .tc := ⟨.hbm, 203, rfl⟩
abbrev main_while0b_v145 : Ref sig .tc := ⟨.hbm, 204, rfl⟩
abbrev main_while0b_c_42 : Ref sig .tc := ⟨.hbm, 205, rfl⟩
abbrev main_while0b_v146 : Ref sig .tc := ⟨.hbm, 206, rfl⟩
abbrev main_v92 : Ref sig .tc := ⟨.hbm, 207, rfl⟩
abbrev main_c_15 : Ref sig .tc := ⟨.hbm, 208, rfl⟩
abbrev main_v93 : Ref sig .tc := ⟨.hbm, 209, rfl⟩
abbrev main_v94 : Ref sig .tc := ⟨.hbm, 210, rfl⟩
abbrev main_call5_v0 : Ref sig .tc := ⟨.hbm, 211, rfl⟩
abbrev main_call5_v1_0 : Ref sig .tc := ⟨.hbm, 212, rfl⟩
abbrev main_v95 : Ref sig .tc := ⟨.hbm, 213, rfl⟩
abbrev main_v96 : Ref sig .tc := ⟨.hbm, 214, rfl⟩
abbrev main_v97 : Ref sig .tc := ⟨.hbm, 215, rfl⟩
abbrev main_v98 : Ref sig .tc := ⟨.hbm, 216, rfl⟩
abbrev main_v99 : Ref sig .tc := ⟨.hbm, 217, rfl⟩
abbrev main_v100 : Ref sig .tc := ⟨.hbm, 218, rfl⟩
abbrev main_v101 : Ref sig .tc := ⟨.hbm, 219, rfl⟩
abbrev main_v102 : Ref sig .tc := ⟨.hbm, 220, rfl⟩
abbrev main_v103 : Ref sig .tc := ⟨.hbm, 221, rfl⟩
abbrev main_call6_c : Ref sig .tc := ⟨.hbm, 222, rfl⟩
abbrev main_call6_v0 : Ref sig .tc := ⟨.hbm, 223, rfl⟩
abbrev main_call6_v1 : Ref sig .tc := ⟨.hbm, 224, rfl⟩
abbrev main_call6_c_0 : Ref sig .tc := ⟨.hbm, 225, rfl⟩
abbrev main_call6_v2 : Ref sig .tc := ⟨.hbm, 226, rfl⟩
abbrev main_call6_v3 : Ref sig .tc := ⟨.hbm, 227, rfl⟩
abbrev main_call6_v4 : Ref sig .tc := ⟨.hbm, 228, rfl⟩
abbrev main_call6_c_1 : Ref sig .tc := ⟨.hbm, 229, rfl⟩
abbrev main_call6_c_2 : Ref sig .tc := ⟨.hbm, 230, rfl⟩
abbrev main_call6_v5 : Ref sig .tc := ⟨.hbm, 231, rfl⟩
abbrev main_call6_v6 : Ref sig .tc := ⟨.hbm, 232, rfl⟩
abbrev main_call6_v7 : Ref sig .tc := ⟨.hbm, 233, rfl⟩
abbrev main_call6_v8 : Ref sig .tc := ⟨.hbm, 234, rfl⟩
abbrev main_call6_v9 : Ref sig .tc := ⟨.hbm, 235, rfl⟩
abbrev main_call6_v10 : Ref sig .tc := ⟨.hbm, 236, rfl⟩
abbrev main_call6_c_3 : Ref sig .tc := ⟨.hbm, 237, rfl⟩
abbrev main_call6_v11 : Ref sig .tc := ⟨.hbm, 238, rfl⟩
abbrev main_call6_v12 : Ref sig .tc := ⟨.hbm, 239, rfl⟩
abbrev main_call6_v13 : Ref sig .tc := ⟨.hbm, 240, rfl⟩
abbrev main_call6_cst : Ref sig .tc := ⟨.hbm, 241, rfl⟩
abbrev main_call6_v14 : Ref sig .tc := ⟨.hbm, 242, rfl⟩
abbrev main_v104 : Ref sig .tc := ⟨.hbm, 243, rfl⟩
abbrev main_v105 : Ref sig .tc := ⟨.hbm, 244, rfl⟩
abbrev main_cst_16 : Ref sig .tc := ⟨.hbm, 245, rfl⟩
abbrev main_call7_v0 : Ref sig .tc := ⟨.hbm, 246, rfl⟩
abbrev main_call7_v1 : Ref sig .tc := ⟨.hbm, 247, rfl⟩
abbrev main_call7_v2 : Ref sig .tc := ⟨.hbm, 248, rfl⟩
abbrev main_v106 : Ref sig .tc := ⟨.hbm, 249, rfl⟩
abbrev main_v107 : Ref sig .tc := ⟨.hbm, 250, rfl⟩
abbrev main_v108 : Ref sig .tc := ⟨.hbm, 251, rfl⟩
abbrev main_v109 : Ref sig .tc := ⟨.hbm, 252, rfl⟩
abbrev main_v110 : Ref sig .tc := ⟨.hbm, 253, rfl⟩

abbrev nD : Nat := 1
abbrev τ : Topo := Topo.v7x

variable {F : FTy → Type} [FloatOps F]

abbrev main_while0_count : Scf.Loop 32 := ⟨0#32, 2000#32, 1#32⟩
-- ==== Proof.Tab.lean ====
module

public import proofs.«01_k».proof.KernelIdeal
public import proofs.«01_k».proof.ReferenceIdeal
public import Idealize.ShloMosaic.Lib.IdealHost

@[expose] public section

set_option maxRecDepth 16384

/-! The anchors' widths and centres: the words of the two programs' tables, read as numbers. -/

noncomputable section

namespace Cert.Tab

open Idealize.ShloMosaic

/-- The word is a finite positive float whose value is the whole number `v`. -/
def fok (w : BitVec 32) (v : Nat) : Bool :=
  decide (w.toNat < 2 ^ 31) && decide (0 < w.toNat / 2 ^ 23) && decide (w.toNat / 2 ^ 23 < 255)
    && decide ((2 ^ 23 + w.toNat % 2 ^ 23) * 2 ^ (w.toNat / 2 ^ 23) = v * 2 ^ 150)

/-- A word that passes the test denotes that number. -/
theorem ofBits_of_fok {w : BitVec 32} {v : Nat} (h : fok w v = true) : Ideal.ofBits FTy.f32 w = ((v : ℝ) : EReal) := by
  simp only [fok, Bool.and_eq_true, decide_eq_true_eq] at h
  obtain ⟨⟨⟨h1, h2⟩, h3⟩, h4⟩ := h
  have e1 : (w.extractLsb' 31 1 == 1#1) = false := by
    rw [beq_eq_false_iff_ne]
    intro e
    have := congrArg BitVec.toNat e
    simp only [BitVec.extractLsb'_toNat, BitVec.toNat_ofNat, Nat.shiftRight_eq_div_pow] at this
    omega
  have e2 : (w.extractLsb' 23 8).toNat = w.toNat / 2 ^ 23 := by
    simp only [BitVec.extractLsb'_toNat, Nat.shiftRight_eq_div_pow]
    omega
  have e3 : (w.extractLsb' 0 23).toNat = w.toNat % 2 ^ 23 := by
    simp only [BitVec.extractLsb'_toNat, Nat.shiftRight_zero]
  show Ideal.ieee 8 23 w = _
  unfold Ideal.ieee
  dsimp only
  rw [show (8 + 23 : Nat) = 31 from rfl, e1, e2, e3, if_neg (by norm_num; omega), if_neg (by omega)]
  refine congrArg _ ?_
  generalize w.toNat / 2 ^ 23 = ex at *
  generalize w.toNat % 2 ^ 23 = fr at *
  have h5 : ((2 ^ 23 + fr : ℕ) : ℝ) * (2 : ℝ) ^ ex = (v : ℝ) * 2 ^ 150 := by exact_mod_cast h4
  simp only [Bool.false_eq_true, if_false, one_mul]
  have h6 : (2 : ℝ) ^ ((ex : Int) - (2 ^ (8 - 1) - 1) - (23 : ℕ)) = 2 ^ ex / 2 ^ 150 := by
    rw [show ((ex : Int) - (2 ^ (8 - 1) - 1) - (23 : ℕ)) = (ex : Int) - (150 : ℕ) by norm_num; ring, zpow_sub₀ (by norm_num), zpow_natCast, zpow_natCast]
  rw [h6, ← mul_div_assoc, div_eq_iff (by positivity)]
  exact_mod_cast h5

/-- The width of the `a`-th anchor of a position. -/
def wN (a : Nat) : Nat :=
  match a with
  | 0 => 16 | 1 => 32 | 2 => 40 | 3 => 48 | 4 => 64 | 5 => 72 | 6 => 80 | 7 => 96 | 8 => 112 | _ => 128

/-- The width of anchor `n`. -/
def wS (n : Nat) : EReal := ((wN (n % 10) : ℝ) : EReal)

/-- The centre of anchor `n`. -/
def cS (n : Nat) : EReal := (((4 + 8 * (n / 10) : ℕ) : ℝ) : EReal)

/-- Each word of the first table is the float of its width. -/
theorem lit0_ok : ∀ (a : Fin 40) (b : Fin 128), fok (Cert.KernelIdeal.lit0t (128 * a.val + b.val)) (wN ((128 * a.val + b.val) % 10)) = true := by
  decide +kernel

/-- Each word of the second table is the float of its centre. -/
theorem lit1_ok : ∀ (a : Fin 40) (b : Fin 128), fok (Cert.KernelIdeal.lit1t (128 * a.val + b.val)) (4 + 8 * ((128 * a.val + b.val) / 10)) = true := by
  decide +kernel

/-- The kernel's first table holds the widths. -/
theorem lit0_val (n : Fin 5120) : Ideal.ofBits FTy.f32 (Cert.KernelIdeal.lit0 n) = wS n.val := by
  have h := lit0_ok ⟨n.val / 128, by omega⟩ ⟨n.val % 128, by omega⟩
  have e : 128 * (n.val / 128) + n.val % 128 = n.val := by omega
  simp only [e] at h
  exact ofBits_of_fok h

/-- The kernel's second table holds the centres. -/
theorem lit1_val (n : Fin 5120) : Ideal.ofBits FTy.f32 (Cert.KernelIdeal.lit1 n) = cS n.val := by
  have h := lit1_ok ⟨n.val / 128, by omega⟩ ⟨n.val % 128, by omega⟩
  have e : 128 * (n.val / 128) + n.val % 128 = n.val := by omega
  simp only [e] at h
  exact ofBits_of_fok h

/-- A finite negative float of a whole value. -/
theorem ofBits_neg {w : BitVec 32} {v : Nat} (hs : 2 ^ 31 ≤ w.toNat) (h : fok (w - 0x80000000#32) v = true) :
    Ideal.ofBits FTy.f32 w = ((-(v : ℝ) : ℝ) : EReal) := by
  have hw : (w - 0x80000000#32).toNat = w.toNat - 2 ^ 31 := by
    rw [BitVec.toNat_sub]; simp only [BitVec.toNat_ofNat]; have := w.isLt; omega
  have hl := w.isLt
  simp only [fok, Bool.and_eq_true, decide_eq_true_eq, hw] at h
  obtain ⟨⟨⟨h1, h2⟩, h3⟩, h4⟩ := h
  have e1 : (w.extractLsb' 31 1 == 1#1) = true := by
    rw [beq_iff_eq]
    apply BitVec.eq_of_toNat_eq
    simp only [BitVec.extractLsb'_toNat, BitVec.toNat_ofNat, Nat.shiftRight_eq_div_pow]
    omega
  have e2 : (w.extractLsb' 23 8).toNat = (w.toNat - 2 ^ 31) / 2 ^ 23 := by
    simp only [BitVec.extractLsb'_toNat, Nat.shiftRight_eq_div_pow]
    omega
  have e3 : (w.extractLsb' 0 23).toNat = (w.toNat - 2 ^ 31) % 2 ^ 23 := by
    simp only [BitVec.extractLsb'_toNat, Nat.shiftRight_zero]
    omega
  show Ideal.ieee 8 23 w = _
  unfold Ideal.ieee
  dsimp only
  rw [show (8 + 23 : Nat) = 31 from rfl, e1, e2, e3, if_neg (by norm_num; omega), if_neg (by omega)]
  refine congrArg _ ?_
  generalize (w.toNat - 2 ^ 31) / 2 ^ 23 = ex at *
  generalize (w.toNat - 2 ^ 31) % 2 ^ 23 = fr at *
  have h5 : ((2 ^ 23 + fr : ℕ) : ℝ) * (2 : ℝ) ^ ex = (v : ℝ) * 2 ^ 150 := by exact_mod_cast h4
  simp only [if_true]
  have h6 : (2 : ℝ) ^ ((ex : Int) - (2 ^ (8 - 1) - 1) - (23 : ℕ)) = 2 ^ ex / 2 ^ 150 := by
    rw [show ((ex : Int) - (2 ^ (8 - 1) - 1) - (23 : ℕ)) = (ex : Int) - (150 : ℕ) by norm_num; ring, zpow_sub₀ (by norm_num), zpow_natCast, zpow_natCast]
  rw [h6, ← mul_div_assoc, div_eq_iff (by positivity)]
  have : (-1 : ℝ) * ((2 ^ 23 + fr : ℕ) : ℝ) * 2 ^ ex = -(((2 ^ 23 + fr : ℕ) : ℝ) * 2 ^ ex) := by ring
  push_cast at h5 ⊢
  linarith

/-- The reference's starting anchors: the left end is `7/2 + 1/2` minus half the width, a whole number below zero. -/
theorem ref_lo (a : Fin 10) : Ideal.ofBits FTy.f32 (Cert.ReferenceIdeal.lit0 ⟨2 * a.val, by omega⟩) = ((4 - (wN a.val : ℝ) / 2 : ℝ) : EReal) := by
  have key : ∀ a : Fin 10, 2 ^ 31 ≤ (Cert.ReferenceIdeal.lit0 ⟨2 * a.val, by omega⟩).toNat
      ∧ fok (Cert.ReferenceIdeal.lit0 ⟨2 * a.val, by omega⟩ - 0x80000000#32) (wN a.val / 2 - 4) = true ∧ wN a.val % 2 = 0 ∧ 8 ≤ wN a.val := by
    decide +kernel
  obtain ⟨h1, h2, h3, h4⟩ := key a
  rw [ofBits_neg h1 h2]
  refine congrArg _ ?_
  obtain ⟨k, hk⟩ : ∃ k, wN a.val = 2 * (k + 4) := ⟨wN a.val / 2 - 4, by omega⟩
  rw [hk, show 2 * (k + 4) / 2 - 4 = k by omega]
  push_cast
  ring

/-- The right end. -/
theorem ref_hi (a : Fin 10) : Ideal.ofBits FTy.f32 (Cert.ReferenceIdeal.lit0 ⟨2 * a.val + 1, by omega⟩) = ((3 + (wN a.val : ℝ) / 2 : ℝ) : EReal) := by
  have key : ∀ a : Fin 10, fok (Cert.ReferenceIdeal.lit0 ⟨2 * a.val + 1, by omega⟩) (wN a.val / 2 + 3) = true ∧ wN a.val % 2 = 0 := by
    decide +kernel
  obtain ⟨h1, h2⟩ := key a
  rw [ofBits_of_fok h1]
  refine congrArg _ ?_
  obtain ⟨k, hk⟩ : ∃ k, wN a.val = 2 * k := ⟨wN a.val / 2, by omega⟩
  rw [hk, show 2 * k / 2 = k by omega]
  push_cast
  ring

/-- The word of one half. -/
theorem ofBits_half : Ideal.ofBits FTy.f32 0x3F000000#32 = ((1 / 2 : ℝ) : EReal) := by
  simp [Ideal.ofBits, Ideal.ieee, -EReal.coe_mul]; norm_num

/-- The word of eight. -/
theorem ofBits_eight : Ideal.ofBits FTy.f32 0x41000000#32 = ((8 : ℝ) : EReal) := by
  have := ofBits_of_fok (w := 0x41000000#32) (v := 8) (by decide +kernel)
  exact_mod_cast this

/-- The reference's widths. -/
theorem ref_width (l : Nat) (a : Fin 10) :
    ((3 + (wN a.val : ℝ) / 2 : ℝ) : EReal) + ((l : ℝ) : EReal) * ((8 : ℝ) : EReal) - (((4 - (wN a.val : ℝ) / 2 : ℝ) : EReal) + ((l : ℝ) : EReal) * ((8 : ℝ) : EReal)) + 1
      = ((wN a.val : ℝ) : EReal) := by
  rw [← EReal.coe_mul, ← EReal.coe_add, ← EReal.coe_add, ← EReal.coe_sub, ← EReal.coe_one, ← EReal.coe_add]
  refine congrArg _ ?_
  ring

/-- The reference's centres. -/
theorem ref_centre (l : Nat) (a : Fin 10) :
    ((4 - (wN a.val : ℝ) / 2 : ℝ) : EReal) + ((l : ℝ) : EReal) * ((8 : ℝ) : EReal) + ((1 / 2 : ℝ) : EReal) * ((wN a.val : ℝ) : EReal)
      = (((4 + 8 * l : ℕ) : ℝ) : EReal) := by
  rw [← EReal.coe_mul, ← EReal.coe_mul, ← EReal.coe_add, ← EReal.coe_add]
  refine congrArg _ ?_
  push_cast
  ring

end Cert.Tab
-- ==== Proof.Sort.lean ====
module

public import proofs.«01_k».proof.KernelIdeal
public import proofs.«01_k».proof.ReferenceIdeal
public import Idealize.ShloMosaic.Lib.Pointwise
public import Idealize.ShloMosaic.Lib.SortFacts
public import Idealize.ShloMosaic.Lib.IdealHost
public import Idealize.ShloMosaic.Lib.Routing.OpsPair
public import Idealize.ShloMosaic.Lib.WordCmp

@[expose] public section

set_option maxRecDepth 16384

/-! The sorts and the gathers of the two programs, at an index. -/

noncomputable section

namespace Cert.Nms

open Idealize.ShloMosaic

/-! ### Taking along an axis -/

/-- Rows of a table taken along its second axis, row by row: the index is read signed and held inside the table. -/
theorem gather_along2 {α : Type} {B N R : Nat} (hN : 0 < N) (d : GatherDims ⟨2, ![B, N]⟩ ⟨3, ![B, R, 1]⟩ ⟨2, ![B, R]⟩)
    (wf : GatherDims.WF ⟨2, ![B, N]⟩ ⟨3, ![B, R, 1]⟩ ⟨2, ![B, R]⟩ [] [1] [0] [1] [0] 2 ![1, 1])
    (hd : d = ⟨[], [1], [0], [0], [1], 2, ![1, 1], wf⟩)
    (x : (⟨2, ![B, N]⟩ : Shape).Idx → α) (idx : IVec ⟨3, ![B, R, 1]⟩ 32) (b : Fin B) (t : Fin R) :
    Host.gather d x idx (ix2 b t) = x (ix2 b ⟨min (idx (ix3 b t 0)).toInt.toNat (N - 1), by omega⟩) := by
  subst hd
  refine congrArg x (funext fun a => Fin.ext ?_)
  match a with
  | ⟨0, _⟩ =>
    show GatherDims.start _ _ idx _ + GatherDims.batchCoord _ _ _ + GatherDims.offCoord _ _ _ = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact dif_pos (List.mem_singleton.mpr rfl)
  | ⟨1, _⟩ =>
    show GatherDims.start _ _ idx _ + GatherDims.batchCoord _ _ _ + GatherDims.offCoord _ _ _ = min (idx (ix3 b t 0)).toInt.toNat (N - 1)
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine congrArg₂ min (congrArg (fun i => (idx i).toInt.toNat) (funext fun c => Fin.ext ?_)) rfl
    match c with
    | ⟨0, _⟩ => rfl
    | ⟨1, _⟩ => rfl
    | ⟨2, _⟩ => rfl

/-- The same of a table of pairs. -/
theorem gather_along3 {α : Type} {B N R C : Nat} (hN : 0 < N) (d : GatherDims ⟨3, ![B, N, C]⟩ ⟨3, ![B, R, 1]⟩ ⟨3, ![B, R, C]⟩)
    (wf : GatherDims.WF ⟨3, ![B, N, C]⟩ ⟨3, ![B, R, 1]⟩ ⟨3, ![B, R, C]⟩ [2] [1] [0] [1] [0] 2 ![1, 1, C])
    (hd : d = ⟨[2], [1], [0], [0], [1], 2, ![1, 1, C], wf⟩)
    (x : (⟨3, ![B, N, C]⟩ : Shape).Idx → α) (idx : IVec ⟨3, ![B, R, 1]⟩ 32) (b : Fin B) (t : Fin R) (ch : Fin C) :
    Host.gather d x idx (ix3 b t ch) = x (ix3 b ⟨min (idx (ix3 b t 0)).toInt.toNat (N - 1), by omega⟩ ch) := by
  subst hd
  refine congrArg x (funext fun a => Fin.ext ?_)
  match a with
  | ⟨0, _⟩ =>
    show GatherDims.start _ _ idx _ + GatherDims.batchCoord _ _ _ + GatherDims.offCoord _ _ _ = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact dif_pos (List.mem_singleton.mpr rfl)
  | ⟨1, _⟩ =>
    show GatherDims.start _ _ idx _ + GatherDims.batchCoord _ _ _ + GatherDims.offCoord _ _ _ = min (idx (ix3 b t 0)).toInt.toNat (N - 1)
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine congrArg₂ min (congrArg (fun i => (idx i).toInt.toNat) (funext fun c => Fin.ext ?_)) rfl
    match c with
    | ⟨0, _⟩ => rfl
    | ⟨1, _⟩ => rfl
    | ⟨2, _⟩ => rfl
  | ⟨2, _⟩ =>
    show GatherDims.start _ _ idx _ + GatherDims.batchCoord _ _ _ + GatherDims.offCoord _ _ _ = ch.val
    have hm : (2 : Fin 3) ∉ ([1] : List (Fin 3)) ∧ (2 : Fin 3) ∉ ([0] : List (Fin 3)) := by decide
    rw [GatherDims.batchCoord_eq_zero _ _ _ hm.2]
    refine Eq.trans (congrArg₂ (· + ·) (congrArg (· + 0) (dif_neg hm.1)) (dif_pos ((GatherDims.mem_sKept _ _).mpr hm))) ?_
    simp only [Nat.zero_add]
    rfl

/-- An index that is a word below the table's length reads itself. -/
theorem gather_pos {n N : Nat} (w : BitVec 32) (hw : w = BitVec.ofNat 32 n) (hn : n < N) (hN : N < 2 ^ 31) :
    min w.toInt.toNat (N - 1) = n := by
  subst hw
  rw [BitVec.toInt_eq_toNat_cond, BitVec.toNat_ofNat, Nat.mod_eq_of_lt (by omega), if_pos (by omega)]
  omega

/-! ### Taking along an axis, with the bounds test around it -/

/-- A position word that is not negative is not wrapped. -/
theorem wrap_pos {k : Nat} (w a : BitVec 32) (hw : w = BitVec.ofNat 32 k) (hk : k < 2 ^ 31) :
    Scalar.select (IntOp.cmpi .slt w 0#32) a w = BitVec.ofNat 32 k := by
  subst hw
  exact Routing.wrap_of_lt _ _ (by rw [BitVec.toNat_ofNat, Nat.mod_eq_of_lt (by omega)]; omega)

/-- A position word inside the axis passes the bounds test. -/
theorem mask_pos {k N : Nat} (w : BitVec 32) (hw : w = BitVec.ofNat 32 k) (hk : k < N) (hN : N < 2 ^ 31) :
    Finset.fold IntOp.andi 1#1 (fun _ : Fin 1 => IntOp.andi (IntOp.cmpi .sge w 0#32) (IntOp.cmpi .sle w (BitVec.ofNat 32 (N - 1)))) Finset.univ = 1#1 := by
  subst hw
  rw [show (0#32) = BitVec.ofNat 32 0 from rfl, WordCmp.cmpi_sge_ofNat (by omega) (by omega), WordCmp.cmpi_sle_ofNat (by omega) (by omega),
    decide_eq_true (by omega : 0 ≤ k), decide_eq_true (by omega : k ≤ N - 1)]
  rfl

/-- Taking row entries at a position inside the axis. -/
theorem take2 {B N R : Nat} (d : GatherDims ⟨2, ![B, N]⟩ ⟨3, ![B, R, 1]⟩ ⟨2, ![B, R]⟩)
    (wf : GatherDims.WF ⟨2, ![B, N]⟩ ⟨3, ![B, R, 1]⟩ ⟨2, ![B, R]⟩ [] [1] [0] [1] [0] 2 ![1, 1])
    (hd : d = ⟨[], [1], [0], [0], [1], 2, ![1, 1], wf⟩)
    (x : (⟨2, ![B, N]⟩ : Shape).Idx → EReal) (W : IVec ⟨3, ![B, R, 1]⟩ 32) (b : Fin B) (t : Fin R) (w a z hi) {k : Nat}
    (hw : w = BitVec.ofNat 32 k) (hk : k < N) (hN : N < 2 ^ 31) (hhi : hi = BitVec.ofNat 32 (N - 1))
    (hW : W (ix3 b t 0) = Scalar.select (IntOp.cmpi .slt w 0#32) a w) :
    Scalar.select (Finset.fold IntOp.andi 1#1 (fun _ : Fin 1 => IntOp.andi (IntOp.cmpi .sge (Scalar.select (IntOp.cmpi .slt w 0#32) a w) 0#32)
        (IntOp.cmpi .sle (Scalar.select (IntOp.cmpi .slt w 0#32) a w) hi)) Finset.univ) (Host.gather d x W (ix2 b t)) z
      = x (ix2 b ⟨k, hk⟩) := by
  have e := wrap_pos w a hw (by omega)
  rw [e] at hW ⊢
  rw [hhi, mask_pos _ rfl hk hN, gather_along2 (by omega) d wf hd]
  refine congrArg x (congrArg (ix2 b) (Fin.ext ?_))
  show min _ _ = k
  rw [hW]; exact gather_pos _ rfl hk hN

/-- Taking rows at a position inside the axis. -/
theorem take3 {B N R C : Nat} (d : GatherDims ⟨3, ![B, N, C]⟩ ⟨3, ![B, R, 1]⟩ ⟨3, ![B, R, C]⟩)
    (wf : GatherDims.WF ⟨3, ![B, N, C]⟩ ⟨3, ![B, R, 1]⟩ ⟨3, ![B, R, C]⟩ [2] [1] [0] [1] [0] 2 ![1, 1, C])
    (hd : d = ⟨[2], [1], [0], [0], [1], 2, ![1, 1, C], wf⟩)
    (x : (⟨3, ![B, N, C]⟩ : Shape).Idx → EReal) (W : IVec ⟨3, ![B, R, 1]⟩ 32) (b : Fin B) (t : Fin R) (ch : Fin C) (w a z hi) {k : Nat}
    (hw : w = BitVec.ofNat 32 k) (hk : k < N) (hN : N < 2 ^ 31) (hhi : hi = BitVec.ofNat 32 (N - 1))
    (hW : W (ix3 b t 0) = Scalar.select (IntOp.cmpi .slt w 0#32) a w) :
    Scalar.select (Finset.fold IntOp.andi 1#1 (fun _ : Fin 1 => IntOp.andi (IntOp.cmpi .sge (Scalar.select (IntOp.cmpi .slt w 0#32) a w) 0#32)
        (IntOp.cmpi .sle (Scalar.select (IntOp.cmpi .slt w 0#32) a w) hi)) Finset.univ) (Host.gather d x W (ix3 b t ch)) z
      = x (ix3 b ⟨k, hk⟩ ch) := by
  have e := wrap_pos w a hw (by omega)
  rw [e] at hW ⊢
  rw [hhi, mask_pos _ rfl hk hN, gather_along3 (by omega) d wf hd]
  refine congrArg x (congrArg (fun j => ix3 b j ch) (Fin.ext ?_))
  show min _ _ = k
  rw [hW]; exact gather_pos _ rfl hk hN

/-! ### The order of the scores -/

/-- Positions of `n` scores in the order of falling score, equal scores in index order. -/
def ordS (n : Nat) (f : Nat → EReal) : Fin n → Fin n :=
  sortedFrom fun k k' => decide (f k'.val < f k.val)

/-- A two-operand sort carrying its own positions returns, at a place of a row, the position its stable permutation puts there. -/
theorem sort2_iota_at {α : Type} {B N : Nat} (cmp : α × BitVec 32 → α × BitVec 32 → BitVec 1) (x : (⟨2, ![B, N]⟩ : Shape).Idx → α)
    (y : IVec ⟨2, ![B, N]⟩ 32) (hy : ∀ b n, y (ix2 b n) = BitVec.ofNat 32 n.val) (before : Fin N → Fin N → Bool) (b : Fin B)
    (hb : ∀ k k' : Fin N, (cmp (x (ix2 b k), BitVec.ofNat 32 k.val) (x (ix2 b k'), BitVec.ofNat 32 k'.val) == 1#1) = before k k') (t : Fin N) :
    (Host.sort2 ⟨2, ![B, N]⟩ 1 cmp x y).2 (ix2 b t) = BitVec.ofNat 32 (sortedFrom before t).val := by
  have al : ∀ k : Fin N, Shape.Idx.along (s := ⟨2, ![B, N]⟩) (ix2 b t) ⟨1, Nat.lt_of_sub_eq_succ rfl⟩ k = ix2 b k := by
    intro k
    funext a
    match a with
    | ⟨0, _⟩ => exact Function.update_of_ne (by intro h; exact absurd (congrArg Fin.val h) (by simp)) _ _
    | ⟨1, _⟩ => exact Function.update_self _ _ _
  unfold Host.sort2
  rw [dif_pos (by decide : (1 : Nat) < 2)]
  refine (congrArg y (al _)).trans ((hy b _).trans (congrArg (fun p : Fin N => BitVec.ofNat 32 p.val) ?_))
  show sortedFrom _ t = sortedFrom before t
  refine congrFun (sortedFrom_congr _ _ fun k k' _ => ?_) t
  exact (congrArg₂ (fun i j => cmp (x i, y i) (x j, y j) == 1#1) (al k) (al k')).trans (by rw [hy, hy]; exact hb k k')

/-- The positions `top_k` returns. -/
theorem topK_at (x : FVec Ideal ⟨2, ![8, 5120]⟩ .f32) (h : (⟨2, ![8, 5120]⟩ : Shape).Slices (fun _ => 0) ⟨2, ![8, 2000]⟩)
    (f : Nat → EReal) (b : Fin 8) (hf : ∀ n : Fin 5120, x (ix2 b n) = f n.val) (t : Fin 2000) :
    (Host.topK (s := ⟨2, ![8, 5120]⟩) ⟨2, ![8, 2000]⟩ 1 (FloatOps.cmpfTotal (F := Ideal) (φ := .f32) .gt) x h).2 (ix2 b t)
      = BitVec.ofNat 32 (ordS 5120 f ⟨t.val, by omega⟩).val := by
  unfold Host.topK
  dsimp only
  have e : ∀ v : IVec ⟨2, ![8, 5120]⟩ 32, extractStridedSlice (s := ⟨2, ![8, 5120]⟩) ⟨2, ![8, 2000]⟩ (fun _ => 0) v h (ix2 b t) = v (ix2 b ⟨t.val, by omega⟩) := by
    intro v
    refine congrArg v (funext fun a => Fin.ext ?_)
    match a with
    | ⟨0, _⟩ => exact Nat.zero_add _
    | ⟨1, _⟩ => exact Nat.zero_add _
  rw [e]
  refine sort2_iota_at _ x _ (fun _ _ => rfl) _ b (fun k k' => ?_) _
  show (BitVec.ofBool (decide (x (ix2 b k') < x (ix2 b k))) == 1#1) = _
  rw [hf, hf]
  by_cases hlt : f k'.val < f k.val
  · simp [hlt]
  · simp [hlt]

/-- The reference's comparator of scores is the order of the extended reals. -/
theorem comparator_eq (x y : EReal) (i j : BitVec 32) :
    (Cert.ReferenceIdeal.comparator_f32_i32_d1 (F := Ideal) (x, i) (y, j) == 1#1) = decide (x < y) := by
  have canon : ∀ z : EReal, Scalar.select (FloatOps.cmpf (F := Ideal) (φ := .f32) .une z z) (FloatOps.ofBits (F := Ideal) .f32 0x7FC00000#32)
      (Scalar.select (FloatOps.cmpf (F := Ideal) (φ := .f32) .oeq z (FloatOps.ofBits (F := Ideal) .f32 0x00000000#32))
        (FloatOps.ofBits (F := Ideal) .f32 0x00000000#32) z) = z := by
    intro z
    have hne : FloatOps.cmpf (F := Ideal) (φ := .f32) .une z z = 0#1 := by
      show BitVec.ofBool (decide (z ≠ z)) = 0#1
      simp
    rw [hne]
    show Scalar.select (BitVec.ofBool (decide (z = Ideal.ofBits FTy.f32 0x00000000#32))) (Ideal.ofBits FTy.f32 0x00000000#32) z = z
    by_cases h : z = Ideal.ofBits FTy.f32 0x00000000#32
    · rw [decide_eq_true h]; exact h.symm
    · rw [decide_eq_false h]; rfl
  show (FloatOps.cmpfTotal (F := Ideal) (φ := .f32) .lt _ _ == 1#1) = _
  rw [canon, canon]
  show (BitVec.ofBool (decide (x < y)) == 1#1) = _
  by_cases h : x < y
  · simp [h]
  · simp [h]

/-- The positions the reference's `argsort` of the negated scores returns. -/
theorem argsort_at (x : FVec Ideal ⟨2, ![8, 5120]⟩ .f32)
    (f : Nat → EReal) (b : Fin 8) (hf : ∀ n : Fin 5120, x (ix2 b n) = - f n.val) (t : Fin 5120) :
    (Host.sort2 ⟨2, ![8, 5120]⟩ 1 (Cert.ReferenceIdeal.comparator_f32_i32_d1 (F := Ideal)) x (iotaInDim ⟨2, ![8, 5120]⟩ 32 1)).2 (ix2 b t)
      = BitVec.ofNat 32 (ordS 5120 f t).val := by
  refine sort2_iota_at _ x _ (fun _ _ => rfl) _ b (fun k k' => ?_) t
  rw [comparator_eq, hf, hf]
  exact decide_eq_decide.mpr EReal.neg_lt_neg_iff

/-! ### A stable sort of flags -/

/-- An unflagged item goes between the flagged and the unflagged ones. -/
theorem insertBefore_append {ι : Type} (P : ι → Bool) (a : ι) (hP : P a = false) (l m : List ι) (hl : ∀ b ∈ l, P b = true)
    (hm : ∀ b ∈ m, P b = false) : insertBefore (fun k k' => P k && !P k') a (l ++ m) = l ++ a :: m := by
  induction l with
  | nil =>
    cases m with
    | nil => rfl
    | cons b m =>
      show insertBefore _ a (b :: m) = a :: b :: m
      unfold insertBefore
      rw [hm b List.mem_cons_self]
      rfl
  | cons b l ih =>
    show insertBefore _ a (b :: (l ++ m)) = b :: (l ++ a :: m)
    unfold insertBefore
    rw [hl b List.mem_cons_self, hP, ih fun c hc => hl c (List.mem_cons_of_mem b hc)]
    rfl

/-- A stable sort that only looks at a flag puts the flagged entries first, each part in its own order. -/
theorem stableSort_flags {ι : Type} (P : ι → Bool) (l : List ι) :
    stableSort (fun k k' => P k && !P k') l = l.filter P ++ l.filter (fun i => !P i) := by
  induction l with
  | nil => rfl
  | cons a l ih =>
    unfold stableSort
    rw [ih]
    by_cases h : P a = true
    · rw [List.filter_cons_of_pos h, List.filter_cons_of_neg (by simp [h])]
      cases hl : l.filter P ++ l.filter (fun i => !P i) with
      | nil => rw [List.append_eq_nil_iff] at hl; simp [hl.1, hl.2, insertBefore]
      | cons b m =>
        unfold insertBefore
        rw [h]
        simp only [Bool.not_true, Bool.and_false, Bool.false_eq_true, if_false, List.cons_append, hl]
    · rw [Bool.not_eq_true] at h
      rw [insertBefore_append P a h _ _ (fun b hb => (List.mem_filter.mp hb).2)
          (fun b hb => by simpa using (List.mem_filter.mp hb).2),
        List.filter_cons_of_neg (by simp [h]), List.filter_cons_of_pos (by simp [h])]

/-- Below the number of flagged positions, the stable sort of flags lists the flagged positions in order. -/
theorem sortedFrom_flags {n : Nat} (P : Nat → Bool) (t : Fin n) (ht : t.val < ((List.range n).filter P).length) :
    (sortedFrom (fun k k' : Fin n => P k.val && !P k'.val) t).val = ((List.range n).filter P).getD t.val 0 := by
  have e : ((List.finRange n).filter fun k => P k.val).map Fin.val = (List.range n).filter P := by
    rw [← List.map_coe_finRange_eq_range, List.filter_map]
    rfl
  have hlen : ((List.finRange n).filter fun k => P k.val).length = ((List.range n).filter P).length := by
    rw [← e, List.length_map]
  unfold sortedFrom
  rw [List.get_eq_getElem]
  have hs : sortPositions n (fun k k' : Fin n => P k.val && !P k'.val)
      = ((List.finRange n).filter fun k => P k.val) ++ ((List.finRange n).filter fun k => !P k.val) :=
    stableSort_flags (fun k : Fin n => P k.val) (List.finRange n)
  simp only [hs, Fin.val_cast]
  rw [List.getElem_append_left (by omega), List.getD_eq_getElem?_getD, List.getElem?_eq_getElem ht, Option.getD_some]
  have := congrArg (fun l => l[t.val]?) e
  simp only [List.getElem?_map] at this
  rw [List.getElem?_eq_getElem (by omega), List.getElem?_eq_getElem ht] at this
  simpa using this

/-- The positions the reference's `argsort` of the inverted flags returns, below the number of flags set. -/
theorem flagsort_at (x : IVec ⟨2, ![8, 2000]⟩ 1) (P : Nat → Bool) (b : Fin 8)
    (hP : ∀ n : Fin 2000, x (ix2 b n) = if P n.val then 0#1 else 1#1) (t : Fin 2000) (ht : t.val < ((List.range 2000).filter P).length) :
    (Host.sort2 ⟨2, ![8, 2000]⟩ 1 Cert.ReferenceIdeal.comparator_i1_i32_d1 x (iotaInDim ⟨2, ![8, 2000]⟩ 32 1)).2 (ix2 b t)
      = BitVec.ofNat 32 (((List.range 2000).filter P).getD t.val 0) := by
  rw [← sortedFrom_flags P t ht]
  refine sort2_iota_at _ x _ (fun _ _ => rfl) _ b (fun k k' => ?_) t
  show (IntOp.cmpi .ult (x (ix2 b k)) (x (ix2 b k')) == 1#1) = _
  rw [hP, hP]
  cases P k.val <;> cases P k'.val <;> rfl

end Cert.Nms
-- ==== Proof.Vec.lean ====
module

public import proofs.«01_k».proof.Proof.Gen.KernelIdeal.Frame

@[expose] public section

set_option maxRecDepth 16384

/-! The second kernel's block computation, written once over a batch row, a block number and the
    blocks before it, as functions of vectors. -/

noncomputable section

namespace Cert.Nms

open Idealize.ShloMosaic Idealize.SL.Sem Cert.KernelIdeal Cert.KernelIdeal.Gen

/-- A matrix shape. -/
abbrev T2 (a b : Nat) : Shape := ⟨2, ![a, b]⟩

/-- A shape of three axes. -/
abbrev T3 (a b c : Nat) : Shape := ⟨3, ![a, b, c]⟩

/-- Rows `0 … R` of one batch row of a column array fit. -/
theorem slCol {bb R : Nat} (hbb : bb < 8) (hR : R ≤ 2048) : (T3 8 2048 1).Slices ![bb, 0, 0] (T3 1 R 1) := by
  refine ⟨rfl, fun a => ?_⟩
  fin_cases a <;> simp <;> omega

/-- One block of lanes of one batch row of a row array fits. -/
theorem slRow {bb off : Nat} (hbb : bb < 8) (ho : off + 256 ≤ 2048) : (T3 8 1 2048).Slices ![bb, 0, off] (T3 1 1 256) := by
  refine ⟨rfl, fun a => ?_⟩
  fin_cases a <;> simp <;> omega

/-- A block of rows of a matrix of 256 columns fits. -/
theorem slBlk {R off n : Nat} (ho : off + n ≤ R) : (T2 R 256).Slices ![off, 0] (T2 n 256) := by
  refine ⟨rfl, fun a => ?_⟩
  fin_cases a <;> simp <;> omega

/-- A column repeats along the lanes. -/
theorem bcCol (R : Nat) : (T2 R 1).Broadcasts (T2 R 256) := by
  refine ⟨le_refl _, fun a => ?_⟩
  fin_cases a <;> simp

/-- A row repeats along the rows. -/
theorem bcRow (R n : Nat) : (T2 1 n).Broadcasts (T2 R n) := by
  refine ⟨le_refl _, fun a => ?_⟩
  fin_cases a <;> simp

/-- A unit batch axis drops. -/
theorem scDrop (a b : Nat) : (T3 1 a b).ShapeCasts (T2 a b) := by
  simp [Shape.ShapeCasts, Shape.numel, Fin.prod_univ_succ]

/-- A unit batch axis is put in front. -/
theorem scAdd (a b : Nat) : (T2 a b).ShapeCasts (T3 1 a b) := by
  simp [Shape.ShapeCasts, Shape.numel, Fin.prod_univ_succ]

variable {F : FTy → Type} [FloatOps F]

/-- The first `R` entries of batch row `bb`, as a column. -/
def colV {bb R : Nat} (hbb : bb < 8) (hR : R ≤ 2048) (v : FVec F (T3 8 2048 1) .f32) : FVec F (T2 R 1) .f32 :=
  shapeCast (T2 R 1) (extractStridedSlice (T3 1 R 1) ![bb, 0, 0] v (slCol hbb hR)) (scDrop R 1)

/-- The 256 entries from `off` of batch row `bb`, as a row. -/
def rowV {bb off : Nat} (hbb : bb < 8) (ho : off + 256 ≤ 2048) (v : FVec F (T3 8 1 2048) .f32) : FVec F (T2 1 256) .f32 :=
  shapeCast (T2 1 256) (extractStridedSlice (T3 1 1 256) ![bb, 0, off] v (slRow hbb ho)) (scDrop 1 256)

/-- The overlap lengths of `R` intervals with 256 others. -/
def interV {R : Nat} (sc ec : FVec F (T2 R 1) .f32) (sr er : FVec F (T2 1 256) .f32) : FVec F (T2 R 256) .f32 :=
  maximumf (broadcast (T2 R 256) (Scalar.ofBits .f32 0x00000000#32))
    (addf (subf (minimumf (broadcastTo (T2 R 256) ec (bcCol R)) (broadcastTo (T2 R 256) er (bcRow R 256)))
        (maximumf (broadcastTo (T2 R 256) sc (bcCol R)) (broadcastTo (T2 R 256) sr (bcRow R 256))))
      (broadcast (T2 R 256) (Scalar.ofBits .f32 0x3F800000#32)))

/-- Which of `R` intervals overlap which of 256 others beyond the threshold, as ones and zeros. -/
def maskV {R : Nat} (sc ec lc : FVec F (T2 R 1) .f32) (sr er lr : FVec F (T2 1 256) .f32) : FVec F (T2 R 256) .f32 :=
  sitofp .f32 (extui 32 (cmpf .ogt (divf (interV sc ec sr er)
      (subf (addf (broadcastTo (T2 R 256) lc (bcCol R)) (broadcastTo (T2 R 256) lr (bcRow R 256))) (interV sc ec sr er)))
    (broadcast (T2 R 256) (Scalar.ofBits .f32 0x3F333333#32))) natLt_1_32)

/-- The six arrays the masks are read from: starts, ends and lengths, as columns and as rows. -/
structure Src (F : FTy → Type) where
  /-- Starts, as columns. -/
  sc : FVec F (T3 8 2048 1) .f32
  /-- Ends, as columns. -/
  ec : FVec F (T3 8 2048 1) .f32
  /-- Starts, as rows. -/
  sr : FVec F (T3 8 1 2048) .f32
  /-- Ends, as rows. -/
  er : FVec F (T3 8 1 2048) .f32
  /-- Lengths, as columns. -/
  lc : FVec F (T3 8 2048 1) .f32
  /-- Lengths, as rows. -/
  lr : FVec F (T3 8 1 2048) .f32

/-- The mask of batch row `bb`: the first `R` intervals against the block from `off`. -/
def mV (V : Src F) {bb off R : Nat} (hbb : bb < 8) (hR : R ≤ 2048) (ho : off + 256 ≤ 2048) : FVec F (T2 R 256) .f32 :=
  maskV (colV hbb hR V.sc) (colV hbb hR V.ec) (colV hbb hR V.lc) (rowV hbb ho V.sr) (rowV hbb ho V.er) (rowV hbb ho V.lr)

/-- The block's own mask above the diagonal, from a mask of its rows. -/
def upV (m : FVec F (T2 256 256) .f32) : FVec F (T3 1 256 256) .f32 :=
  shapeCast (T3 1 256 256) (mulf m k1_pay9) (scAdd 256 256)

/-- The scratch's words: the eight batch rows' masks, stacked. -/
def stackV (f : Fin 8 → FVec F (T3 1 256 256) .f32) : FVec F S8x256x256 .f32 :=
  shapeCast S8x256x256 (concatenate S8x256x256 0 [⟨T3 1 256 256, f 0⟩, ⟨T3 1 256 256, f 1⟩, ⟨T3 1 256 256, f 2⟩, ⟨T3 1 256 256, f 3⟩,
    ⟨T3 1 256 256, f 4⟩, ⟨T3 1 256 256, f 5⟩, ⟨T3 1 256 256, f 6⟩, ⟨T3 1 256 256, f 7⟩]
    concatenates_S1x256x256_S1x256x256_S1x256x256_S1x256x256_S1x256x256_S1x256x256_S1x256x256_S1x256x256_S8x256x256_d0)
    shapeCasts_S8x256x256_S8x256x256

/-- Eight rows of 256, stacked. -/
def rowsV (f : Fin 8 → FVec F (T2 1 256) .f32) : FVec F S8x256 .f32 :=
  concatenate S8x256 0 [⟨T2 1 256, f 0⟩, ⟨T2 1 256, f 1⟩, ⟨T2 1 256, f 2⟩, ⟨T2 1 256, f 3⟩,
    ⟨T2 1 256, f 4⟩, ⟨T2 1 256, f 5⟩, ⟨T2 1 256, f 6⟩, ⟨T2 1 256, f 7⟩]
    concatenates_S1x256_S1x256_S1x256_S1x256_S1x256_S1x256_S1x256_S1x256_S8x256_d0

/-- Which lanes of block `b` are among the first 2000. -/
def validV (b : Nat) : FVec F (T2 1 256) .f32 :=
  sitofp .f32 (extui 32 (cmpi .slt (addi (iota .tc S1x256 32 [1] iota_S1x256_d1_w32) (broadcast (T2 1 256) (BitVec.ofNat 32 (256 * b))))
    (broadcast (T2 1 256) 2000#32)) natLt_1_32)

/-- Which lanes no earlier kept interval suppresses, from the keep bits before and the mask's rows before. -/
def freeV {J : Nat} (b : Nat) (kp : FVec F (T2 1 J) .f32) (m : FVec F (T2 J 256) .f32) : FVec F (T2 1 256) .f32 :=
  mulf (sitofp .f32 (extui 32 (cmpf .oeq (matmul (DotDims.plain 1 J 256) none kp m (constant (T2 1 256) .f32 0x00000000#32))
    (broadcast (T2 1 256) (Scalar.ofBits .f32 0x00000000#32))) natLt_1_32)) (validV b)

/-- Row `bb` of a stack of eight. -/
theorem slOne {bb : Nat} (hbb : bb < 8) : S8x256.Slices ![bb, 0] (T2 1 256) := by
  refine ⟨rfl, fun a => ?_⟩
  fin_cases a <;> simp <;> omega

/-- Row `bb` of a stack of eight. -/
def pickV {bb : Nat} (hbb : bb < 8) (L : FVec F S8x256 .f32) : FVec F (T2 1 256) .f32 :=
  extractStridedSlice (T2 1 256) ![bb, 0] L (slOne hbb)

/-- Equal rows of 256 put one after another. -/
theorem catOk (b : Nat) (hb : 2 ≤ b) (f : Fin b → FVec F (T2 1 256) .f32) : Shape.Concatenates
    ((List.ofFn fun n : Fin b => (⟨T2 1 256, f n⟩ : (s : Shape) × FVec F s .f32)).map (·.1)) (T2 1 (256 * b)) 1 := by
  rw [List.map_ofFn]
  have h : (fun n : Fin b => (⟨T2 1 256, f n⟩ : (s : Shape) × FVec F s .f32).1) = fun _ => T2 1 256 := rfl
  show Shape.Concatenates (List.ofFn fun n : Fin b => T2 1 256) _ _
  rw [List.ofFn_const]
  refine ⟨by simpa using hb, ?_, ?_⟩
  · intro s hs
    obtain rfl := List.eq_of_mem_replicate hs
    refine ⟨rfl, fun a ha => ?_⟩
    fin_cases a
    · rfl
    · exact absurd rfl ha
  · simp [List.map_replicate]; omega

/-- The rows of `b` blocks put one after another. -/
def catV (b : Nat) (hb : 2 ≤ b) (f : Fin b → FVec F (T2 1 256) .f32) : FVec F (T2 1 (256 * b)) .f32 :=
  concatenate (T2 1 (256 * b)) 1 (List.ofFn fun n : Fin b => ⟨T2 1 256, f n⟩) (catOk b hb f)

/-- The running count inside a block. -/
def prefV (k : FVec F (T2 1 256) .f32) : FVec F (T2 1 256) .f32 :=
  matmul (DotDims.plain 1 256 256) none k k1_pay8 (constant (T2 1 256) .f32 0x00000000#32)

/-- The count up to block `b`, from the blocks' keep rows. -/
def offV (k : Nat → FVec F (T2 1 256) .f32) : Nat → FVec F (T2 1 1) .f32
  | 0 => k1_pay10
  | b + 1 => addf (offV k b) (extractStridedSlice (T2 1 1) ![0, 255] (prefV (k b)) slices_S1x256_o0_255_S1x1)

/-- The ranks inside block `b`. -/
def rankV (k : Nat → FVec F (T2 1 256) .f32) (b : Nat) : FVec F (T2 1 256) .f32 :=
  addf (prefV (k b)) (broadcastTo (T2 1 256) (offV k b) broadcasts_S1x1_S1x256)

/-- One batch row's output: the interval with each rank, from the keep rows of the eight blocks. -/
def outV (k : Nat → FVec F (T2 1 256) .f32) (p : FVec F (T3 1 2048 2) .f32) : FVec F (T3 1 300 2) .f32 :=
  shapeCast (T3 1 300 2) (matmul (DotDims.plain 300 2048 2) none
    (sitofp .f32 (extui 32 (andi
      (cmpf .oeq (broadcastTo (T2 300 2048) (catV 8 (by decide) fun b => rankV k b) (bcRow 300 2048))
        (addf k1_pay580 (broadcast (T2 300 2048) (Scalar.ofBits .f32 0x3F800000#32))))
      (broadcastTo (T2 300 2048) (cmpf .ogt (catV 8 (by decide) fun b => k b) (broadcast (T2 1 2048) (Scalar.ofBits .f32 0x00000000#32)))
        (bcRow 300 2048))) natLt_1_32))
    (shapeCast (T2 2048 2) p (scDrop 2048 2)) (constant (T2 300 2) .f32 0x00000000#32)) (scAdd 300 2)

/-- The lane numbers the loop compares its trip with. -/
def laneV : IVec S8x256 32 := iota .tc S8x256 32 [1] iota_S8x256_d1_w32

/-- The loop's carried keep bits before trip `n`, from the scratch's words and the initial bits. -/
def loopV (w : FVec F S8x256x256 .f32) (a : FVec F S8x256 .f32) : Nat → FVec F S8x256 .f32
  | 0 => a
  | k + 1 => if h : k < k1_t1_loop.trips then
      k1_pay36 laneV ⟨k, h⟩ (loopV w a k) (View.ld w (Rect.unit (s := S8x256x256) (k1_off1 ⟨k, h⟩) S8x1x256.size (k1_off1_inb ⟨k, h⟩)))
    else loopV w a k

/-- The scratch's words of block `b`. -/
def wbV (V : Src F) (b : Nat) (hb : b < 8) : FVec F S8x256x256 .f32 :=
  stackV fun bb => upV (extractStridedSlice (T2 256 256) ![256 * b, 0]
    (mV V (R := 256 * b + 256) (off := 256 * b) bb.isLt (by omega) (by omega)) (slBlk (by omega)))

/-- The initial bits of block `b`, from the keep bits of batch rows before it. -/
def initV (V : Src F) (b : Nat) (hb : b < 8) (kp : Fin 8 → FVec F (T2 1 (256 * b)) .f32) : FVec F S8x256 .f32 :=
  rowsV fun bb => freeV b (kp bb) (extractStridedSlice (T2 (256 * b) 256) ![0, 0]
    (mV V (R := 256 * b + 256) (off := 256 * b) bb.isLt (by omega) (by omega)) (slBlk (by omega)))

end Cert.Nms
-- ==== Proof.Idx.lean ====
module

public import proofs.«01_k».proof.Proof.Vec
public import Idealize.ShloMosaic.Lib.Pointwise
public import Idealize.ShloMosaic.Lib.Pointwise.IndexBridge
public import Idealize.ShloMosaic.Lib.MatmulPlain
public import Idealize.ShloMosaic.Lib.ValueLayout
public import Idealize.ShloMosaic.Lib.WordCmp

@[expose] public section

set_option maxRecDepth 16384

/-! The vector functions of `Proof/Vec.lean` at an index, over the extended reals. -/

noncomputable section

namespace Cert.Nms

open Idealize.ShloMosaic Idealize.SL.Sem Cert.KernelIdeal Cert.KernelIdeal.Gen

open Classical in
/-- One where the statement holds, zero elsewhere. -/
def ind (P : Prop) : EReal := if P then 1 else 0

/-- An indicator is positive exactly where its proposition holds. -/
theorem ind_pos {P : Prop} : 0 < ind P ↔ P := by
  unfold ind; split <;> simp_all

/-- Equivalent propositions have the same indicator. -/
theorem ind_congr {P Q : Prop} (h : P ↔ Q) : ind P = ind Q := by rw [propext h]

/-- The product of two indicators is that of the conjunction. -/
theorem ind_mul (P Q : Prop) : ind P * ind Q = ind (P ∧ Q) := by
  unfold ind; by_cases hP : P <;> by_cases hQ : Q <;> simp [hP, hQ]

/-- One minus an indicator is that of the negation. -/
theorem one_sub_ind (P : Prop) : 1 - ind P = ind (¬ P) := by
  unfold ind; by_cases hP : P <;> simp [hP]
  exact EReal.sub_self (by decide) (by decide)

/-- An indicator is not negative. -/
theorem ind_nonneg (P : Prop) : 0 ≤ ind P := by
  unfold ind; split <;> simp

/-- A comparison's bit, widened and turned into a number. -/
theorem sitofp_bit (P : Prop) [Decidable P] : FloatOps.sitofp (F := Ideal) .f32 (BitVec.setWidth 32 (BitVec.ofBool (decide P))) = ind P := by
  unfold ind
  show (((BitVec.setWidth 32 (BitVec.ofBool (decide P))).toInt : ℝ) : EReal) = _
  by_cases h : P
  · have e : (BitVec.setWidth 32 (BitVec.ofBool true)).toInt = 1 := by decide
    simp only [h, decide_true, if_true, e]
    norm_num
  · have e : (BitVec.setWidth 32 (BitVec.ofBool false)).toInt = 0 := by decide
    simp only [h, decide_false, if_false, e]
    norm_num

/-- An entry of one batch's column. -/
theorem colV_apply {bb R : Nat} (hbb : bb < 8) (hR : R ≤ 2048) (v : FVec Ideal (T3 8 2048 1) .f32) (r : Fin R) :
    colV hbb hR v (ix2 r 0) = v (ix3 ⟨bb, hbb⟩ ⟨r, by omega⟩ 0) := by
  unfold colV
  rw [ix2_eq_valueIdx, ValueIdx.shapeCast_1ab_ab_apply, ← ix3_eq_valueIdx]
  pointwise

/-- An entry of one batch's row, from an offset. -/
theorem rowV_apply {bb off : Nat} (hbb : bb < 8) (ho : off + 256 ≤ 2048) (v : FVec Ideal (T3 8 1 2048) .f32) (l : Fin 256) :
    rowV hbb ho v (ix2 0 l) = v (ix3 ⟨bb, hbb⟩ 0 ⟨off + l, by omega⟩) := by
  unfold rowV
  pointwise

/-- A column repeated along the lanes. -/
theorem bcCol_apply {R : Nat} {α : Type} (v : (T2 R 1).Idx → α) (r : Fin R) (l : Fin 256) :
    broadcastTo (T2 R 256) v (bcCol R) (ix2 r l) = v (ix2 r 0) := by
  refine broadcastTo_apply v (bcCol R) (ix2 r l) (ix2 r 0) fun a => ?_
  match a with
  | ⟨0, _⟩ =>
    show r.val = if R = 1 then 0 else r.val
    split <;> omega
  | ⟨1, _⟩ => rfl

/-- A row repeated down the rows. -/
theorem bcRow_apply {R n : Nat} {α : Type} (v : (T2 1 n).Idx → α) (r : Fin R) (l : Fin n) :
    broadcastTo (T2 R n) v (bcRow R n) (ix2 r l) = v (ix2 0 l) := by
  rw [ix2_eq_valueIdx, ix2_eq_valueIdx]
  exact ValueIdx.broadcastTo_1b_ab_apply ..

/-- Eight squares stacked. -/
theorem stackV_apply (f : Fin 8 → FVec Ideal (T3 1 256 256) .f32) (bb : Fin 8) (i j : Fin 256) :
    stackV f (ix3 bb i j) = f bb (ix3 0 i j) := by
  unfold stackV
  pointwise
  fin_cases bb <;> rfl

/-- Eight rows stacked. -/
theorem rowsV_apply (f : Fin 8 → FVec Ideal (T2 1 256) .f32) (bb : Fin 8) (j : Fin 256) :
    rowsV f (ix2 bb j) = f bb (ix2 0 j) := by
  unfold rowsV
  pointwise
  fin_cases bb <;> rfl

/-- The part of a square above its diagonal. -/
theorem upV_apply (m : FVec Ideal (T2 256 256) .f32) (i j : Fin 256) : upV m (ix3 0 i j) = m (ix2 i j) * ind (i.val < j.val) := by
  unfold upV k1_pay9
  pointwise
  rw [WordCmp.cmpi_slt_ofNat (by omega) (by omega), sitofp_bit]

/-- The triangle of ones. -/
theorem tri_apply (i j : Fin 256) : k1_pay8 (F := Ideal) (ix2 i j) = ind (i.val ≤ j.val) := by
  unfold k1_pay8
  pointwise
  rw [WordCmp.cmpi_sle_ofNat (by omega) (by omega), sitofp_bit]

/-- A position is valid below 2000. -/
theorem validV_apply (b : Nat) (hb : b < 8) (j : Fin 256) : validV (F := Ideal) b (ix2 0 j) = ind (256 * b + j.val < 2000) := by
  unfold validV
  pointwise
  have e : IntOp.addi (BitVec.ofNat 32 j.val) (BitVec.ofNat 32 (256 * b)) = BitVec.ofNat 32 (256 * b + j.val) := by
    apply BitVec.eq_of_toNat_eq
    simp [IntOp.addi]; omega
  rw [e, WordCmp.cmpi_slt_ofNat (by omega) (by omega), sitofp_bit]

/-- Whether interval `i` overlaps interval `j` beyond the threshold. -/
def ovl (s e : Nat → EReal) (i j : Nat) : Prop :=
  Ideal.ofBits FTy.f32 1060320051#32 < Ideal.div (max 0 (min (e i) (e j) - max (s i) (s j) + 1))
    ((e i - s i + 1) + (e j - s j + 1) - max 0 (min (e i) (e j) - max (s i) (s j) + 1))

/-- The six arrays hold the starts, ends and lengths of the intervals `s`, `e`. -/
structure SrcOf (V : Src Ideal) (s e : Fin 8 → Nat → EReal) : Prop where
  sc : ∀ (bb : Fin 8) (i : Fin 2048), V.sc (ix3 bb i 0) = s bb i
  ec : ∀ (bb : Fin 8) (i : Fin 2048), V.ec (ix3 bb i 0) = e bb i
  lc : ∀ (bb : Fin 8) (i : Fin 2048), V.lc (ix3 bb i 0) = e bb i - s bb i + 1
  sr : ∀ (bb : Fin 8) (i : Fin 2048), V.sr (ix3 bb 0 i) = s bb i
  er : ∀ (bb : Fin 8) (i : Fin 2048), V.er (ix3 bb 0 i) = e bb i
  lr : ∀ (bb : Fin 8) (i : Fin 2048), V.lr (ix3 bb 0 i) = e bb i - s bb i + 1

/-- The mask of overlaps is the indicator of `ovl`. -/
theorem mV_apply {V : Src Ideal} {s e : Fin 8 → Nat → EReal} (hV : SrcOf V s e) {bb off R : Nat} (hbb : bb < 8) (hR : R ≤ 2048)
    (ho : off + 256 ≤ 2048) (r : Fin R) (l : Fin 256) :
    mV V hbb hR ho (ix2 r l) = ind (ovl (s ⟨bb, hbb⟩) (e ⟨bb, hbb⟩) r (off + l)) := by
  unfold mV maskV interV
  pointwise [bcCol_apply, bcRow_apply, colV_apply, rowV_apply, hV.sc, hV.ec, hV.lc, hV.sr, hV.er, hV.lr]
  rw [sitofp_bit]
  rfl

/-- Both bits set. -/
theorem andi_bit (P Q : Prop) [Decidable P] [Decidable Q] :
    IntOp.andi (BitVec.ofBool (decide P)) (BitVec.ofBool (decide Q)) = BitVec.ofBool (decide (P ∧ Q)) := by
  by_cases hP : P <;> by_cases hQ : Q <;> simp [hP, hQ, IntOp.andi]

/-- A word below 2³¹, as a number. -/
theorem sitofp_ofNat (n : Nat) (h : n < 2 ^ 31) : FloatOps.sitofp (F := Ideal) .f32 (BitVec.ofNat 32 n) = ((n : ℝ) : EReal) := by
  show (((BitVec.ofNat 32 n).toInt : ℝ) : EReal) = _
  rw [WordCmp.toInt_ofNat_of_lt (by omega)]
  simp

/-- One trip of the suppression at one lane. -/
theorem step_apply (k : Nat) (hk : k < k1_t1_loop.trips) (a : FVec Ideal S8x256 .f32) (row : FVec Ideal S8x1x256 .f32) (bb : Fin 8) (j : Fin 256) (hk' : k < 256) :
   k1_pay36 laneV ⟨k, hk⟩ a row (ix2 bb j) = a (ix2 bb j) * ind (¬ (0 < row (ix3 bb 0 j) ∧ 0 < a (ix2 bb ⟨k, hk'⟩))) := by
  unfold k1_pay36 laneV
  pointwise
  have e : ∀ x : Fin 256, IntOp.cmpi CmpIPredicate.eq (BitVec.ofNat 32 x.val) (Scf.iv (0#32) (1#32) k) = BitVec.ofBool (decide (x = ⟨k, hk'⟩)) := by
    intro x
    have : Scf.iv (0#32) (1#32) k = BitVec.ofNat 32 k := by simp [Scf.iv]
    rw [this, WordCmp.cmpi_eq_ofNat (by omega) (by omega)]
    simp [Fin.ext_iff]
  simp only [e, WordCmp.select_decide, Finset.sum_ite_eq', Finset.sum_ite_eq, Finset.mem_univ, if_true, andi_bit, sitofp_bit, one_sub_ind]

/-- A block of rows of a mask. -/
theorem blk_apply {R off n : Nat} (ho : off + n ≤ R) (m : FVec Ideal (T2 R 256) .f32) (r : Fin n) (l : Fin 256) :
    extractStridedSlice (T2 n 256) ![off, 0] m (slBlk ho) (ix2 r l) = m (ix2 ⟨off + r, by omega⟩ l) := by
  refine congrArg m (funext fun a => Fin.ext ?_)
  match a with
  | ⟨0, _⟩ => rfl
  | ⟨1, _⟩ => exact Nat.zero_add _

/-- One batch's row of the keep bits. -/
theorem pickV_apply {bb : Nat} (hbb : bb < 8) (L : FVec Ideal S8x256 .f32) (j : Fin 256) : pickV hbb L (ix2 0 j) = L (ix2 ⟨bb, hbb⟩ j) := by
  unfold pickV
  pointwise

/-- The row of the scratch that a trip loads. -/
theorem row_apply (k : Fin k1_t1_loop.trips) (hk : k.val < 256) (w : FVec Ideal S8x256x256 .f32) (bb : Fin 8) (j : Fin 256) :
    (View.ld (Val := Elt Ideal) (e' := .f32) w (Rect.unit (s := S8x256x256) (k1_off1 k) S8x1x256.size (k1_off1_inb k)) : FVec Ideal S8x1x256 .f32) (ix3 bb 0 j) = w (ix3 bb ⟨k, hk⟩ j) := by
  refine congrArg w (funext fun a => Fin.ext ?_)
  have e := k1_off1_eq k
  match a with
  | ⟨0, _⟩ =>
    show k1_off1 k 0 + 1 * bb.val = bb.val
    rw [e]; simp
  | ⟨1, _⟩ =>
    show k1_off1 k 1 + 1 * 0 = k.val
    rw [e]; simp
  | ⟨2, _⟩ =>
    show k1_off1 k 2 + 1 * j.val = j.val
    rw [e]; simp

/-- Blocks joined along the lanes. -/
theorem catV_apply (b : Nat) (hb : 2 ≤ b) (f : Fin b → FVec Ideal (T2 1 256) .f32) (n : Fin b) (l : Fin 256) (h : 256 * n.val + l.val < 256 * b) :
    catV b hb f (ix2 0 ⟨256 * n + l, h⟩) = f n (ix2 0 l) := by
  unfold catV
  refine concatenate_ofFn_apply (t := T2 1 (256 * b)) (s₁ := T2 1 256) 1 f _ rfl 256 rfl _ n ?_ (ix2 0 l) ?_ ?_
  · show (256 * n.val + l.val) / 256 = n.val
    omega
  · show l.val = (256 * n.val + l.val) % 256
    omega
  · intro a ha
    match a with
    | ⟨0, _⟩ => rfl
    | ⟨1, _⟩ => exact absurd rfl ha

/-- A product of two matrices as a sum. -/
theorem plain_apply {M K N : Nat} (x : FVec Ideal (T2 M K) .f32) (y : FVec Ideal (T2 K N) .f32) (r : Fin M) (c : Fin N) :
    matmul (DotDims.plain M K N) none x y (constant (T2 M N) .f32 0x00000000#32) (ix2 r c) = ∑ k : Fin K, x (ix2 r k) * y (ix2 k c) := by
  simp only [matmul, ix2_eq_valueIdx]
  rw [Ideal.matmul_plain_apply]
  have e : constant (F := Ideal) (T2 M N) FTy.f32 (0#32) (ValueIdx.ix2 r c) = 0 := by pointwise
  rw [e, zero_add]

/-- A lane is free if no kept position before its block suppresses it and it is valid. -/
theorem freeV_apply {J : Nat} (b : Nat) (hb : b < 8) (kp : FVec Ideal (T2 1 J) .f32) (m : FVec Ideal (T2 J 256) .f32) (j : Fin 256) :
    freeV b kp m (ix2 0 j) = ind ((∑ i : Fin J, kp (ix2 0 i) * m (ix2 i j)) = 0 ∧ 256 * b + j.val < 2000) := by
  unfold freeV
  generalize hM : matmul (DotDims.plain 1 J 256) none kp m (constant (T2 1 256) .f32 0x00000000#32) = M
  have e : M (ix2 0 j) = ∑ i : Fin J, kp (ix2 0 i) * m (ix2 i j) := by rw [← hM, plain_apply]
  pointwise [validV_apply]
  rw [sitofp_bit, validV_apply b hb, ind_mul, e]

/-- The prefix sums of a block's keep bits. -/
theorem prefV_apply (k : FVec Ideal (T2 1 256) .f32) (j : Fin 256) : prefV k (ix2 0 j) = ∑ i : Fin 256, k (ix2 0 i) * ind (i.val ≤ j.val) := by
  unfold prefV
  rw [plain_apply]
  simp only [tri_apply]

/-- The first offset is zero. -/
theorem off_zero : k1_pay10 (F := Ideal) (ix2 0 0) = 0 := by
  unfold k1_pay10
  pointwise

/-- No block counts nothing. -/
theorem offV_zero (k : Nat → FVec Ideal (T2 1 256) .f32) : offV k 0 (ix2 0 0) = 0 := off_zero

/-- The next offset adds a block's keep bits. -/
theorem offV_succ (k : Nat → FVec Ideal (T2 1 256) .f32) (b : Nat) : offV k (b + 1) (ix2 0 0) = offV k b (ix2 0 0) + ∑ i : Fin 256, k b (ix2 0 i) := by
  rw [offV]
  pointwise
  refine congrArg _ ?_
  rw [prefV_apply]
  refine Finset.sum_congr rfl fun i _ => ?_
  have : i.val ≤ 255 := by omega
  simp [ind, this]

/-- A lane's rank: its prefix sum and its block's offset. -/
theorem rankV_apply (k : Nat → FVec Ideal (T2 1 256) .f32) (b : Nat) (j : Fin 256) :
    rankV k b (ix2 0 j) = (∑ i : Fin 256, k b (ix2 0 i) * ind (i.val ≤ j.val)) + offV k b (ix2 0 0) := by
  unfold rankV
  pointwise
  rw [prefV_apply]

/-- An entry of the result as a sum over the positions. -/
theorem outV_apply (k : Nat → FVec Ideal (T2 1 256) .f32) (p : FVec Ideal (T3 1 2048 2) .f32) (s : Fin 300) (c : Fin 2) :
    outV k p (ix3 0 s c) = ∑ i : Fin 2048, ind (catV 8 (by decide) (fun b => rankV k b) (ix2 0 i) = ((s.val + 1 : ℝ) : EReal)
      ∧ 0 < catV 8 (by decide) (fun b => k b) (ix2 0 i)) * p (ix3 0 i c) := by
  unfold outV k1_pay580
  generalize catV (F := Ideal) 8 (by decide) (fun b => rankV k b) = A
  generalize catV (F := Ideal) 8 (by decide) (fun b => k b) = B
  have hA : ∀ i : Fin 2048, broadcastTo (T2 300 2048) A (bcRow 300 2048) (ix2 s i) = A (ix2 0 i) := fun i => bcRow_apply A s i
  rw [ix3_eq_valueIdx, ValueIdx.shapeCast_ab_1ab_apply, ← ix2_eq_valueIdx, plain_apply]
  refine Finset.sum_congr rfl fun i _ => ?_
  have hp : shapeCast (T2 2048 2) p (scDrop 2048 2) (ix2 i c) = p (ix3 0 i c) := by
    rw [ix2_eq_valueIdx, ValueIdx.shapeCast_1ab_ab_apply, ix3_eq_valueIdx]
  rw [hp]
  congr 1
  pointwise
  rw [andi_bit, sitofp_bit, sitofp_ofNat _ (by omega)]
  refine ind_congr ?_
  norm_num

end Cert.Nms
-- ==== Proof.RunVal.lean ====
module

public import proofs.«01_k».proof.Proof.Vec
public import Idealize.ShloMosaic.Lib.VecWindow

@[expose] public section

set_option maxRecDepth 16384
set_option maxHeartbeats 4000000

/-! The words of the second kernel's run, as the vector functions of `Proof/Vec.lean`. -/

noncomputable section

namespace Cert.Nms

open Idealize.ShloMosaic Idealize.SL.Sem Cert.KernelIdeal Cert.KernelIdeal.Gen

variable {F : FTy → Type} [FloatOps F]

/-- A carried value stepping as the loop does is the loop's. -/
theorem loop_of_step (w : FVec F S8x256x256 .f32) (a : FVec F S8x256 .f32) {f : Nat → FVec F S8x256 .f32} {n : Nat} (h0 : f 0 = a)
    (hs : ∀ (k : Nat) (h : k < k1_t1_loop.trips), f (k + 1) = k1_pay36 laneV ⟨k, h⟩ (f k)
      (View.ld w (Rect.unit (s := S8x256x256) (k1_off1 ⟨k, h⟩) S8x1x256.size (k1_off1_inb ⟨k, h⟩))))
    (hn : ∀ (k : Nat), ¬ k < k1_t1_loop.trips → f (k + 1) = f k) : f n = loopV w a n := by
  induction n with
  | zero => exact h0
  | succ n ih =>
    by_cases h : n < k1_t1_loop.trips
    · rw [hs n h, ih, loopV, dif_pos h]
    · rw [hn n h, ih, loopV, dif_neg h]

/-- A carried value stepping as the loop does over the scratch's contents is the loop's over the words they hold. -/
theorem loop_at (arg6 : Memref sig .tc .vmem S8x256x256 .f32)
    {f : arg6.view.ty.Contents (Elt F) → FVec F S8x256 .f32 → Nat → FVec F S8x256 .f32}
    {X : arg6.view.ty.Contents (Elt F)} {a : FVec F S8x256 .f32} {n : Nat} (h0 : ∀ X a, f X a 0 = a)
    (hs : ∀ X a (k : Nat) (h : k < k1_t1_loop.trips), f X a (k + 1) = k1_pay36 laneV ⟨k, h⟩ (f X a k)
      (View.ld (arg6.view.read (Elt F) X) (Rect.unit (s := S8x256x256) (k1_off1 ⟨k, h⟩) S8x1x256.size (k1_off1_inb ⟨k, h⟩))))
    (hn : ∀ X a (k : Nat), ¬ k < k1_t1_loop.trips → f X a (k + 1) = f X a k) : f X a n = loopV (arg6.view.read (Elt F) X) a n :=
  loop_of_step (f := f X a) _ _ (h0 X a) (hs X a) (hn X a)

variable (c : Dev nD) (arg0 : Memref sig .tc .vmem S8x2048x1 .f32) (harg0 : arg0.IsWhole) (arg1 : Memref sig .tc .vmem S8x2048x1 .f32) (harg1 : arg1.IsWhole)
  (arg2 : Memref sig .tc .vmem S8x1x2048 .f32) (harg2 : arg2.IsWhole) (arg3 : Memref sig .tc .vmem S8x1x2048 .f32) (harg3 : arg3.IsWhole)
  (arg4 : Memref sig .tc .vmem S8x2048x2 .f32) (harg4 : arg4.IsWhole) (arg5 : Memref sig .tc .vmem S8x300x2 .f32) (harg5 : arg5.IsWhole)
  (arg6 : Memref sig .tc .vmem S8x256x256 .f32) (harg6 : arg6.IsWhole)
  (x0 : Vec F S8x2048x1 .f32) (x1 : Vec F S8x2048x1 .f32) (x2 : Vec F S8x1x2048 .f32) (x3 : Vec F S8x1x2048 .f32) (x4 : Vec F S8x2048x2 .f32)

/-- The arrays the run reads its masks from. -/
def src : Src F where
  sc := kernelRun1_A.sl.r c arg0 harg0 x0
  ec := kernelRun1_A.sl.r_1 c arg1 harg1 x1
  sr := kernelRun1_A.sl.r_2 c arg2 harg2 x2
  er := kernelRun1_A.sl.r_3 c arg3 harg3 x3
  lc := kernelRun1_A.sl.r_4 c arg0 harg0 arg1 harg1 x0 x1
  lr := kernelRun1_A.sl.r_5 c arg2 harg2 arg3 harg3 x2 x3

/-- The first block's scratch words. -/
def wb0V (V : Src F) : FVec F S8x256x256 .f32 :=
  stackV fun bb => upV (mV V (R := 256) (off := 0) bb.isLt (by omega) (by omega))

/-- The keep bits of block 0. -/
theorem lk0 : kernelRun1_A.sl.r_27 c arg0 harg0 arg1 harg1 arg2 harg2 arg3 harg3 arg4 harg4 arg5 harg5 arg6 harg6 x0 x1 x2 x3
    = loopV (wb0V (src c arg0 harg0 arg1 harg1 arg2 harg2 arg3 harg3 x0 x1 x2 x3)) (rowsV fun _ => validV 0) k1_t1_loop.trips := by
  unfold kernelRun1_A.sl.r_27 kernelRun1_A.sl.HS0_1
  refine (loop_at arg6 (fun _ _ => rfl) (fun X a k h => ?_) (fun X a k h => ?_)).trans (congrArg₂ (fun w a => loopV w a _) ?_ ?_)
  · refine (st_k1_t1.eq_2 ..).trans ?_
    unfold st_k1_t1Step
    refine (dif_pos h).trans ?_
    unfold tripR_k1_t1 trip_k1_t1
    rfl
  · refine (st_k1_t1.eq_2 ..).trans ?_
    unfold st_k1_t1Step
    exact dif_neg h
  · refine (View.read_writes_full _ _ _ _ _).trans ?_
    unfold wb0V stackV k1_pay34
    dsimp only
    congr 1
  · unfold k1_pay35 rowsV
    dsimp only
    congr 1

/-- The seventh block's loop value, as the words after it read it. -/
def lkAux : {L : FVec F S8x256 .f32 // kernelRun1_A.sl.r_372 c arg0 harg0 arg1 harg1 arg2 harg2 arg3 harg3 arg4 harg4 arg5 harg5 arg6 harg6 x0 x1 x2 x3 = k1_pay488 L} := ⟨_, rfl⟩

/-- The keep bits after block `n`'s loop. -/
def LK (n : Nat) : FVec F S8x256 .f32 := match n with
  | 0 => kernelRun1_A.sl.r_27 c arg0 harg0 arg1 harg1 arg2 harg2 arg3 harg3 arg4 harg4 arg5 harg5 arg6 harg6 x0 x1 x2 x3
  | 1 => kernelRun1_A.sl.r_85 c arg0 harg0 arg1 harg1 arg2 harg2 arg3 harg3 arg4 harg4 arg5 harg5 arg6 harg6 x0 x1 x2 x3
  | 2 => kernelRun1_A.sl.r_141 c arg0 harg0 arg1 harg1 arg2 harg2 arg3 harg3 arg4 harg4 arg5 harg5 arg6 harg6 x0 x1 x2 x3
  | 3 => kernelRun1_A.sl.r_196 c arg0 harg0 arg1 harg1 arg2 harg2 arg3 harg3 arg4 harg4 arg5 harg5 arg6 harg6 x0 x1 x2 x3
  | 4 => kernelRun1_A.sl.r_253 c arg0 harg0 arg1 harg1 arg2 harg2 arg3 harg3 arg4 harg4 arg5 harg5 arg6 harg6 x0 x1 x2 x3
  | 5 => kernelRun1_A.sl.r_318 c arg0 harg0 arg1 harg1 arg2 harg2 arg3 harg3 arg4 harg4 arg5 harg5 arg6 harg6 x0 x1 x2 x3
  | 6 => (lkAux c arg0 harg0 arg1 harg1 arg2 harg2 arg3 harg3 arg4 harg4 arg5 harg5 arg6 harg6 x0 x1 x2 x3).1
  | _ => kernelRun1_A.sl.r_428 c arg0 harg0 arg1 harg1 arg2 harg2 arg3 harg3 arg4 harg4 arg5 harg5 arg6 harg6 x0 x1 x2 x3

/-- The keep bits of block 1. -/
theorem lk1 : LK c arg0 harg0 arg1 harg1 arg2 harg2 arg3 harg3 arg4 harg4 arg5 harg5 arg6 harg6 x0 x1 x2 x3 1
    = loopV (wbV (src c arg0 harg0 arg1 harg1 arg2 harg2 arg3 harg3 x0 x1 x2 x3) 1 (by decide)) (initV (src c arg0 harg0 arg1 harg1 arg2 harg2 arg3 harg3 x0 x1 x2 x3) 1 (by decide) fun bb =>
        pickV bb.isLt ((LK c arg0 harg0 arg1 harg1 arg2 harg2 arg3 harg3 arg4 harg4 arg5 harg5 arg6 harg6 x0 x1 x2 x3) 0)) k1_t1_loop.trips := by
  show kernelRun1_A.sl.r_85 c arg0 harg0 arg1 harg1 arg2 harg2 arg3 harg3 arg4 harg4 arg5 harg5 arg6 harg6 x0 x1 x2 x3 = _
  unfold kernelRun1_A.sl.r_85
  refine (loop_at arg6 (fun _ _ => rfl) (fun X a k h => ?_) (fun X a k h => ?_)).trans (congrArg₂ (fun w a => loopV w a _) ?_ ?_)
  · refine (st_k1_t2.eq_2 ..).trans ?_
    unfold st_k1_t2Step
    refine (dif_pos h).trans ?_
    unfold tripR_k1_t2 trip_k1_t2
    rfl
  · refine (st_k1_t2.eq_2 ..).trans ?_
    unfold st_k1_t2Step
    exact dif_neg h
  · refine (View.read_writes_full _ _ _ _ _).trans ?_
    unfold wbV stackV k1_pay111
    dsimp only
    congr 1
  · unfold k1_pay112 initV rowsV
    dsimp only
    congr 1

/-- The keep bits of block 2. -/
theorem lk2 : LK c arg0 harg0 arg1 harg1 arg2 harg2 arg3 harg3 arg4 harg4 arg5 harg5 arg6 harg6 x0 x1 x2 x3 2
    = loopV (wbV (src c arg0 harg0 arg1 harg1 arg2 harg2 arg3 harg3 x0 x1 x2 x3) 2 (by decide)) (initV (src c arg0 harg0 arg1 harg1 arg2 harg2 arg3 harg3 x0 x1 x2 x3) 2 (by decide) fun bb =>
        catV 2 (by decide) fun n => pickV bb.isLt ((LK c arg0 harg0 arg1 harg1 arg2 harg2 arg3 harg3 arg4 harg4 arg5 harg5 arg6 harg6 x0 x1 x2 x3) n)) k1_t1_loop.trips := by
  show kernelRun1_A.sl.r_141 c arg0 harg0 arg1 harg1 arg2 harg2 arg3 harg3 arg4 harg4 arg5 harg5 arg6 harg6 x0 x1 x2 x3 = _
  unfold kernelRun1_A.sl.r_141
  refine (loop_at arg6 (fun _ _ => rfl) (fun X a k h => ?_) (fun X a k h => ?_)).trans (congrArg₂ (fun w a => loopV w a _) ?_ ?_)
  · refine (st_k1_t3.eq_2 ..).trans ?_
    unfold st_k1_t3Step
    refine (dif_pos h).trans ?_
    unfold tripR_k1_t3 trip_k1_t3
    rfl
  · refine (st_k1_t3.eq_2 ..).trans ?_
    unfold st_k1_t3Step
    exact dif_neg h
  · refine (View.read_writes_full _ _ _ _ _).trans ?_
    unfold wbV stackV k1_pay185
    dsimp only
    congr 1
  · unfold k1_pay186 initV rowsV
    dsimp only
    congr 1

/-- The keep bits of block 3. -/
theorem lk3 : LK c arg0 harg0 arg1 harg1 arg2 harg2 arg3 harg3 arg4 harg4 arg5 harg5 arg6 harg6 x0 x1 x2 x3 3
    = loopV (wbV (src c arg0 harg0 arg1 harg1 arg2 harg2 arg3 harg3 x0 x1 x2 x3) 3 (by decide)) (initV (src c arg0 harg0 arg1 harg1 arg2 harg2 arg3 harg3 x0 x1 x2 x3) 3 (by decide) fun bb =>
        catV 3 (by decide) fun n => pickV bb.isLt ((LK c arg0 harg0 arg1 harg1 arg2 harg2 arg3 harg3 arg4 harg4 arg5 harg5 arg6 harg6 x0 x1 x2 x3) n)) k1_t1_loop.trips := by
  show kernelRun1_A.sl.r_196 c arg0 harg0 arg1 harg1 arg2 harg2 arg3 harg3 arg4 harg4 arg5 harg5 arg6 harg6 x0 x1 x2 x3 = _
  unfold kernelRun1_A.sl.r_196
  refine (loop_at arg6 (fun _ _ => rfl) (fun X a k h => ?_) (fun X a k h => ?_)).trans (congrArg₂ (fun w a => loopV w a _) ?_ ?_)
  · refine (st_k1_t4.eq_2 ..).trans ?_
    unfold st_k1_t4Step
    refine (dif_pos h).trans ?_
    unfold tripR_k1_t4 trip_k1_t4
    rfl
  · refine (st_k1_t4.eq_2 ..).trans ?_
    unfold st_k1_t4Step
    exact dif_neg h
  · refine (View.read_writes_full _ _ _ _ _).trans ?_
    unfold wbV stackV k1_pay257
    dsimp only
    congr 1
  · unfold k1_pay258 initV rowsV
    dsimp only
    congr 1

/-- The keep bits of block 4. -/
theorem lk4 : LK c arg0 harg0 arg1 harg1 arg2 harg2 arg3 harg3 arg4 harg4 arg5 harg5 arg6 harg6 x0 x1 x2 x3 4
    = loopV (wbV (src c arg0 harg0 arg1 harg1 arg2 harg2 arg3 harg3 x0 x1 x2 x3) 4 (by decide)) (initV (src c arg0 harg0 arg1 harg1 arg2 harg2 arg3 harg3 x0 x1 x2 x3) 4 (by decide) fun bb =>
        catV 4 (by decide) fun n => pickV bb.isLt ((LK c arg0 harg0 arg1 harg1 arg2 harg2 arg3 harg3 arg4 harg4 arg5 harg5 arg6 harg6 x0 x1 x2 x3) n)) k1_t1_loop.trips := by
  show kernelRun1_A.sl.r_253 c arg0 harg0 arg1 harg1 arg2 harg2 arg3 harg3 arg4 harg4 arg5 harg5 arg6 harg6 x0 x1 x2 x3 = _
  unfold kernelRun1_A.sl.r_253
  refine (loop_at arg6 (fun _ _ => rfl) (fun X a k h => ?_) (fun X a k h => ?_)).trans (congrArg₂ (fun w a => loopV w a _) ?_ ?_)
  · refine (st_k1_t5.eq_2 ..).trans ?_
    unfold st_k1_t5Step
    refine (dif_pos h).trans ?_
    unfold tripR_k1_t5 trip_k1_t5
    rfl
  · refine (st_k1_t5.eq_2 ..).trans ?_
    unfold st_k1_t5Step
    exact dif_neg h
  · refine (View.read_writes_full _ _ _ _ _).trans ?_
    unfold wbV stackV k1_pay333
    dsimp only
    congr 1
  · unfold k1_pay334 initV rowsV
    dsimp only
    congr 1

/-- The keep bits of block 5. -/
theorem lk5 : LK c arg0 harg0 arg1 harg1 arg2 harg2 arg3 harg3 arg4 harg4 arg5 harg5 arg6 harg6 x0 x1 x2 x3 5
    = loopV (wbV (src c arg0 harg0 arg1 harg1 arg2 harg2 arg3 harg3 x0 x1 x2 x3) 5 (by decide)) (initV (src c arg0 harg0 arg1 harg1 arg2 harg2 arg3 harg3 x0 x1 x2 x3) 5 (by decide) fun bb =>
        catV 5 (by decide) fun n => pickV bb.isLt ((LK c arg0 harg0 arg1 harg1 arg2 harg2 arg3 harg3 arg4 harg4 arg5 harg5 arg6 harg6 x0 x1 x2 x3) n)) k1_t1_loop.trips := by
  show kernelRun1_A.sl.r_318 c arg0 harg0 arg1 harg1 arg2 harg2 arg3 harg3 arg4 harg4 arg5 harg5 arg6 harg6 x0 x1 x2 x3 = _
  unfold kernelRun1_A.sl.r_318
  refine (loop_at arg6 (fun _ _ => rfl) (fun X a k h => ?_) (fun X a k h => ?_)).trans (congrArg₂ (fun w a => loopV w a _) ?_ ?_)
  · refine (st_k1_t6.eq_2 ..).trans ?_
    unfold st_k1_t6Step
    refine (dif_pos h).trans ?_
    unfold tripR_k1_t6 trip_k1_t6
    rfl
  · refine (st_k1_t6.eq_2 ..).trans ?_
    unfold st_k1_t6Step
    exact dif_neg h
  · refine (View.read_writes_full _ _ _ _ _).trans ?_
    unfold wbV stackV k1_pay414
    dsimp only
    congr 1
  · unfold k1_pay415 initV rowsV
    dsimp only
    congr 1

/-- The keep bits of block 6. -/
theorem lk6 : LK c arg0 harg0 arg1 harg1 arg2 harg2 arg3 harg3 arg4 harg4 arg5 harg5 arg6 harg6 x0 x1 x2 x3 6
    = loopV (wbV (src c arg0 harg0 arg1 harg1 arg2 harg2 arg3 harg3 x0 x1 x2 x3) 6 (by decide)) (initV (src c arg0 harg0 arg1 harg1 arg2 harg2 arg3 harg3 x0 x1 x2 x3) 6 (by decide) fun bb =>
        catV 6 (by decide) fun n => pickV bb.isLt ((LK c arg0 harg0 arg1 harg1 arg2 harg2 arg3 harg3 arg4 harg4 arg5 harg5 arg6 harg6 x0 x1 x2 x3) n)) k1_t1_loop.trips := by
  show (lkAux c arg0 harg0 arg1 harg1 arg2 harg2 arg3 harg3 arg4 harg4 arg5 harg5 arg6 harg6 x0 x1 x2 x3).1 = _
  unfold lkAux
  dsimp only
  refine (loop_at arg6 (fun _ _ => rfl) (fun X a k h => ?_) (fun X a k h => ?_)).trans (congrArg₂ (fun w a => loopV w a _) ?_ ?_)
  · refine (st_k1_t7.eq_2 ..).trans ?_
    unfold st_k1_t7Step
    refine (dif_pos h).trans ?_
    unfold tripR_k1_t7 trip_k1_t7
    rfl
  · refine (st_k1_t7.eq_2 ..).trans ?_
    unfold st_k1_t7Step
    exact dif_neg h
  · refine (View.read_writes_full _ _ _ _ _).trans ?_
    unfold wbV stackV k1_pay485 kernelRun1_A.sl.r_371 k1_pay484
    dsimp only
    congr 1
  · unfold k1_pay486 initV rowsV
    dsimp only
    congr 1

/-- The keep bits of block 7. -/
theorem lk7 : LK c arg0 harg0 arg1 harg1 arg2 harg2 arg3 harg3 arg4 harg4 arg5 harg5 arg6 harg6 x0 x1 x2 x3 7
    = loopV (wbV (src c arg0 harg0 arg1 harg1 arg2 harg2 arg3 harg3 x0 x1 x2 x3) 7 (by decide)) (initV (src c arg0 harg0 arg1 harg1 arg2 harg2 arg3 harg3 x0 x1 x2 x3) 7 (by decide) fun bb =>
        catV 7 (by decide) fun n => pickV bb.isLt ((LK c arg0 harg0 arg1 harg1 arg2 harg2 arg3 harg3 arg4 harg4 arg5 harg5 arg6 harg6 x0 x1 x2 x3) n)) k1_t1_loop.trips := by
  show kernelRun1_A.sl.r_428 c arg0 harg0 arg1 harg1 arg2 harg2 arg3 harg3 arg4 harg4 arg5 harg5 arg6 harg6 x0 x1 x2 x3 = _
  unfold kernelRun1_A.sl.r_428
  refine (loop_at arg6 (fun _ _ => rfl) (fun X a k h => ?_) (fun X a k h => ?_)).trans (congrArg₂ (fun w a => loopV w a _) ?_ ?_)
  · refine (st_k1_t8.eq_2 ..).trans ?_
    unfold st_k1_t8Step
    refine (dif_pos h).trans ?_
    unfold tripR_k1_t8 trip_k1_t8
    rfl
  · refine (st_k1_t8.eq_2 ..).trans ?_
    unfold st_k1_t8Step
    exact dif_neg h
  · refine (View.read_writes_full _ _ _ _ _).trans ?_
    unfold wbV stackV k1_pay560
    dsimp only
    congr 1
  · unfold k1_pay561 initV rowsV
    dsimp only
    congr 1

/-- The batch row `bb` of the intervals the run reads. -/
def propV (bb : Nat) (inb : ∀ a, (![bb, 0, 0] : Fin 3 → Nat) a + S1x2048x2.size a ≤ S8x2048x2.size a) : FVec F S1x2048x2 .f32 :=
  View.readAt (Elt F) arg4.view (Rect.unit (s := S8x2048x2) ![bb, 0, 0] S1x2048x2.size inb).toLoadRect (harg4.unread x4)

end Cert.Nms
-- ==== Proof.Greedy.lean ====
module

public import proofs.«01_k».proof.Proof.Idx
public import proofs.«01_k».proof.Proof.RunVal
public import Idealize.ShloMosaic.Lib.Routing.OneHot

@[expose] public section

set_option maxRecDepth 16384

/-! Greedy suppression over the naturals, and the second kernel's blocks as that suppression. -/

noncomputable section

namespace Cert.Nms

open Idealize.ShloMosaic Idealize.SL.Sem Cert.KernelIdeal Cert.KernelIdeal.Gen

/-- Number `j` is kept: it is below `N` and no kept number before it suppresses it. -/
def Kp (M : Nat → Nat → Prop) (N : Nat) (j : Nat) : Prop := j < N ∧ ∀ i, (h : i < j) → Kp M N i → ¬ M i j
termination_by j

/-- Number `j` is below `N` and no kept number below both `n` and `j` suppresses it. -/
def St (M : Nat → Nat → Prop) (N n j : Nat) : Prop := j < N ∧ ∀ i, i < n → i < j → Kp M N i → ¬ M i j

/-- Once all positions before `j` are done, the state at `j` is final. -/
theorem St_of_le {M : Nat → Nat → Prop} {N n j : Nat} (h : j ≤ n) : St M N n j ↔ Kp M N j := by
  rw [Kp, St]
  exact and_congr_right fun _ => forall_congr' fun i => ⟨fun H hi hk => H (by omega) hi hk, fun H _ hi hk => H hi hk⟩

/-- One more position done: it suppresses what it overlaps, if it is kept. -/
theorem St_succ {M : Nat → Nat → Prop} {N n j : Nat} : St M N (n + 1) j ↔ St M N n j ∧ ¬ ((M n j ∧ n < j) ∧ Kp M N n) := by
  constructor
  · intro h
    exact ⟨⟨h.1, fun i hi => h.2 i (by omega)⟩, fun H => h.2 n (by omega) H.1.2 H.2 H.1.1⟩
  · intro h
    refine ⟨h.1.1, fun i hi hj hk hM => ?_⟩
    by_cases e : i < n
    · exact h.1.2 i e hj hk hM
    · obtain rfl : i = n := by omega
      exact h.2 ⟨⟨hM, hj⟩, hk⟩

/-- The loop has 256 trips. -/
theorem trips_eq : k1_t1_loop.trips = 256 := by decide

/-- The loop's carried bits, trip by trip. -/
theorem loop_ind (w : FVec Ideal S8x256x256 .f32) (a : FVec Ideal S8x256 .f32) (M : Fin 8 → Nat → Nat → Prop) (b : Nat)
    (hw : ∀ (bb : Fin 8) (i j : Fin 256), w (ix3 bb i j) = ind (M bb (256 * b + i) (256 * b + j) ∧ i.val < j.val))
    (ha : ∀ (bb : Fin 8) (j : Fin 256), a (ix2 bb j) = ind (St (M bb) 2000 (256 * b) (256 * b + j))) (n : Nat) (hn : n ≤ 256) :
    ∀ (bb : Fin 8) (j : Fin 256), loopV w a n (ix2 bb j) = ind (St (M bb) 2000 (256 * b + n) (256 * b + j)) := by
  induction n with
  | zero => exact ha
  | succ n ih =>
    intro bb j
    have hk : n < k1_t1_loop.trips := by rw [trips_eq]; omega
    rw [loopV, dif_pos hk, step_apply n hk _ _ bb j (by omega), row_apply ⟨n, hk⟩ (by show n < 256; omega), hw, ih (by omega), ih (by omega), ind_pos, ind_pos, ind_mul]
    refine ind_congr ?_
    show _ ↔ St (M bb) 2000 (256 * b + n + 1) (256 * b + j)
    rw [St_succ, St_of_le (n := 256 * b + n) (j := 256 * b + n) (le_refl _)]
    have e : n < j.val ↔ 256 * b + n < 256 * b + j.val := by omega
    show _ ∧ ¬ ((_ ∧ n < j.val) ∧ _) ↔ _
    rw [e]

/-- A sum of products of bits is zero where no pair of bits is set. -/
theorem sum_ind_eq_zero {n : Nat} (P : Fin n → Prop) : (∑ i : Fin n, ind (P i)) = 0 ↔ ∀ i, ¬ P i := by
  rw [Finset.sum_eq_zero_iff_of_nonneg fun i _ => ind_nonneg _]
  refine forall_congr' fun i => ?_
  constructor
  · intro h hp
    have := h (Finset.mem_univ _)
    rw [ind, if_pos hp] at this
    exact one_ne_zero this
  · intro h _
    rw [ind, if_neg h]

section block
variable {V : Src Ideal} {s e : Fin 8 → Nat → EReal} (hV : SrcOf V s e)
include hV

/-- The first block's keep bits. -/
theorem block0_ind (bb : Fin 8) (j : Fin 256) :
    loopV (wb0V V) (rowsV fun _ => validV 0) k1_t1_loop.trips (ix2 bb j) = ind (Kp (ovl (s bb) (e bb)) 2000 (256 * 0 + j)) := by
  rw [loop_ind _ _ (fun bb => ovl (s bb) (e bb)) 0 ?_ ?_ _ (le_of_eq trips_eq), trips_eq]
  · exact ind_congr (St_of_le (by omega))
  · intro bb i j
    rw [wb0V, stackV_apply, upV_apply, mV_apply hV bb.isLt, ind_mul]
    simp only [Nat.zero_add, Nat.mul_zero]
  · intro bb j
    rw [rowsV_apply, validV_apply 0 (by omega)]
    refine ind_congr ⟨fun h => ⟨h, fun i hi => ?_⟩, fun h => h.1⟩
    omega

/-- A later block's keep bits, from those of the blocks before. -/
theorem block_ind (b : Nat) (hb : b < 8) (kp : Fin 8 → FVec Ideal (T2 1 (256 * b)) .f32)
    (hkp : ∀ (bb : Fin 8) (i : Fin (256 * b)), kp bb (ix2 0 i) = ind (Kp (ovl (s bb) (e bb)) 2000 i)) (bb : Fin 8) (j : Fin 256) :
    loopV (wbV V b hb) (initV V b hb kp) k1_t1_loop.trips (ix2 bb j) = ind (Kp (ovl (s bb) (e bb)) 2000 (256 * b + j)) := by
  rw [loop_ind _ _ (fun bb => ovl (s bb) (e bb)) b ?_ ?_ _ (le_of_eq trips_eq), trips_eq]
  · exact ind_congr (St_of_le (by omega))
  · intro bb i j
    rw [wbV, stackV_apply, upV_apply, blk_apply (by omega), mV_apply hV bb.isLt, ind_mul]
  · intro bb j
    rw [initV, rowsV_apply, freeV_apply b hb]
    have h : ∀ i : Fin (256 * b), kp bb (ix2 0 i) * extractStridedSlice (T2 (256 * b) 256) ![0, 0]
        (mV V (R := 256 * b + 256) (off := 256 * b) bb.isLt (by omega) (by omega)) (slBlk (by omega)) (ix2 i j)
        = ind (Kp (ovl (s bb) (e bb)) 2000 i ∧ ovl (s bb) (e bb) i (256 * b + j)) := by
      intro i
      rw [hkp, blk_apply (by omega), mV_apply hV bb.isLt, ind_mul]
      simp only [Nat.zero_add]
    rw [Finset.sum_congr rfl fun i _ => h i]
    rw [sum_ind_eq_zero]
    refine ind_congr ⟨fun H => ⟨H.2, fun i hi _ hk hM => H.1 ⟨i, hi⟩ ⟨hk, hM⟩⟩, fun H => ⟨fun i hi => ?_, H.1⟩⟩
    exact H.2 i i.isLt (by omega) hi.1 hi.2

end block

/-- The eight batch rows' keep bits laid out in rows, block by block. -/
theorem cat_ind (b : Nat) (hb : 2 ≤ b) (f : Fin b → FVec Ideal (T2 1 256) .f32) (Q : Nat → EReal)
    (hf : ∀ (n : Fin b) (l : Fin 256), f n (ix2 0 l) = Q (256 * n + l)) (i : Fin (256 * b)) : catV b hb f (ix2 0 i) = Q i := by
  have hn : i.val / 256 < b := by omega
  have hl : i.val % 256 < 256 := by omega
  have e : i = ⟨256 * (⟨i.val / 256, hn⟩ : Fin b).val + (⟨i.val % 256, hl⟩ : Fin 256).val, by dsimp only; omega⟩ := Fin.ext (by dsimp only; omega)
  rw [e, catV_apply b hb f ⟨i.val / 256, hn⟩ ⟨i.val % 256, hl⟩, hf]

section count
open Classical

/-- A sum of bits is a count. -/
theorem sum_ind_count (n : Nat) (P : Nat → Prop) [DecidablePred P] : (∑ i : Fin n, ind (P i)) = ((Nat.count P n : ℝ) : EReal) := by
  induction n with
  | zero => simp
  | succ n ih =>
    rw [Fin.sum_univ_castSucc, Nat.count_succ]
    simp only [Fin.val_castSucc, Fin.val_last, ih]
    by_cases h : P n <;> simp [ind, h]

/-- A count up to and including a lane, inside a block. -/
theorem count_le (P : Nat → Prop) [DecidablePred P] (j n : Nat) [DecidablePred fun i => P i ∧ i ≤ j] (h : j < n) : Nat.count (fun i => P i ∧ i ≤ j) n = Nat.count P (j + 1) := by
  obtain ⟨m, rfl⟩ : ∃ m, n = j + 1 + m := ⟨n - (j + 1), by omega⟩
  rw [Nat.count_add]
  have e0 : Nat.count (fun k => P (j + 1 + k) ∧ j + 1 + k ≤ j) m = 0 := Nat.count_iff_forall_not.2 fun k _ hk => by omega
  rw [e0, Nat.add_zero]
  exact Routing.count_congr_of_lt _ fun i hi => ⟨fun h => h.1, fun h => ⟨h, by omega⟩⟩

variable (k : Nat → FVec Ideal (T2 1 256) .f32) (Q : Nat → Prop) (hk : ∀ b, b < 8 → ∀ l : Fin 256, k b (ix2 0 l) = ind (Q (256 * b + l)))
include hk

/-- An offset counts the kept positions before its block. -/
theorem off_count (b : Nat) (hb : b ≤ 8) : offV k b (ix2 0 0) = ((Nat.count Q (256 * b) : ℝ) : EReal) := by
  induction b with
  | zero => rw [offV_zero]; simp
  | succ b ih =>
    rw [offV_succ, ih (by omega), Finset.sum_congr rfl fun i _ => hk b (by omega) i, sum_ind_count 256 fun i => Q (256 * b + i)]
    have e : 256 * (b + 1) = 256 * b + 256 := by ring
    rw [e, Nat.count_add]
    push_cast
    rfl

/-- A rank counts the kept positions up to its lane. -/
theorem rank_count (b : Nat) (hb : b < 8) (j : Fin 256) : rankV k b (ix2 0 j) = ((Nat.count Q (256 * b + j + 1) : ℝ) : EReal) := by
  rw [rankV_apply, off_count k Q hk b (by omega)]
  have h : ∀ i : Fin 256, k b (ix2 0 i) * ind (i.val ≤ j.val) = ind (Q (256 * b + i) ∧ i.val ≤ j.val) := fun i => by
    rw [hk b hb, ind_mul]
  rw [Finset.sum_congr rfl fun i _ => h i, sum_ind_count 256 fun i => Q (256 * b + i) ∧ i ≤ j.val, count_le (fun i => Q (256 * b + i)) j.val 256 j.isLt]
  rw [Nat.add_assoc, Nat.count_add Q (256 * b) (j.val + 1)]
  push_cast
  rw [add_comm]

/-- The output row: the interval at each rank, zero beyond the last. -/
theorem out_count (p : FVec Ideal (T3 1 2048 2) .f32) (q : Nat → Fin 2 → EReal) (hp : ∀ (i : Fin 2048) (c : Fin 2), p (ix3 0 i c) = q i c) (s : Fin 300) (c : Fin 2) :
    outV k p (ix3 0 s c) = if s.val < Nat.count Q 2048 then q (((List.range 2048).filter fun i => decide (Q i)).getD s 0) c else 0 := by
  rw [outV_apply, ← Routing.sum_oneHot Q (fun i => q i c) 2048 s.val]
  have hl : ∀ (n : Nat) (f : Nat → EReal), ((List.range n).map f).sum = ∑ i : Fin n, f i := by
    intro n f
    induction n with
    | zero => simp
    | succ n ih => rw [List.sum_range_succ, Fin.sum_univ_castSucc, ih]; rfl
  rw [hl]
  refine Finset.sum_congr rfl fun i _ => ?_
  rw [hp, cat_ind 8 (by decide) (fun b => rankV k b) (fun n => ((Nat.count Q (n + 1) : ℝ) : EReal)) (fun n l => rank_count k Q hk n n.isLt l) i,
    cat_ind 8 (by decide) (fun b => k b) (fun n => ind (Q n)) (fun n l => hk n n.isLt l) i, ind_pos]
  have e : ((((Nat.count Q (i.val + 1) : ℕ) : ℝ) : EReal) = ((s.val + 1 : ℝ) : EReal) ∧ Q i) ↔ (Q i ∧ Nat.count Q i = s.val) := by
    rw [EReal.coe_eq_coe_iff]
    have e1 : ((Nat.count Q (i.val + 1) : ℕ) : ℝ) = (s.val + 1 : ℝ) ↔ Nat.count Q (i.val + 1) = s.val + 1 := by
      norm_cast
    rw [e1, Nat.count_succ]
    constructor
    · rintro ⟨h1, h2⟩
      rw [if_pos h2] at h1
      exact ⟨h2, by omega⟩
    · rintro ⟨h1, h2⟩
      rw [if_pos h1]
      exact ⟨by omega, h1⟩
  rw [ind_congr e]
  unfold ind
  split <;> simp

end count
end Cert.Nms
-- ==== Proof.Spec.lean ====
module

public import proofs.«01_k».proof.Proof.Idx
public import proofs.«01_k».proof.Proof.Greedy
public import proofs.«01_k».proof.Proof.Sort
public import proofs.«01_k».proof.Proof.Tab

@[expose] public section

/-! The values both programs compute, written over plain natural-number positions: the two ends and the filtered score of
each candidate, the candidates in order of score, and the output row. -/

noncomputable section

namespace Cert.Spec

open Idealize.ShloMosaic Cert.Nms

/-- The shape of the two arguments. -/
abbrev A : Shape := ⟨5, ![8, 20, 512, 1, 1]⟩

variable (x y : FVec Ideal A .f32)

/-- The score of candidate `n`. -/
def sc (b : Fin 8) (n : Nat) : EReal := x (ix5 b ⟨10 + n % 10, by omega⟩ ⟨n / 10 % 512, by omega⟩ 0 0)

/-- The centre shift of candidate `n`. -/
def dx (b : Fin 8) (n : Nat) : EReal := y (ix5 b ⟨n % 10 * 2, by omega⟩ ⟨n / 10 % 512, by omega⟩ 0 0)

/-- The log width of candidate `n`. -/
def dl (b : Fin 8) (n : Nat) : EReal := y (ix5 b ⟨n % 10 * 2 + 1, by omega⟩ ⟨n / 10 % 512, by omega⟩ 0 0)

/-- A value clipped to the length of the track. -/
def clip (v : EReal) : EReal := min (Ideal.ofBits FTy.f32 0x457FF000#32) (max 0 v)

/-- The centre of candidate `n`. -/
def ctr (b : Fin 8) (n : Nat) : EReal := dx y b n * Tab.wS n + Tab.cS n

/-- Half the length of candidate `n`. -/
def half (b : Fin 8) (n : Nat) : EReal := Ideal.ofBits FTy.f32 0x3F000000#32 * (Ideal.exp (dl y b n) * Tab.wS n)

/-- The start of candidate `n`. -/
def lo (b : Fin 8) (n : Nat) : EReal := clip (ctr y b n - half y b n)

/-- The end of candidate `n`. -/
def hi (b : Fin 8) (n : Nat) : EReal := clip (ctr y b n + half y b n)

open Classical in
/-- The score of candidate `n` after the length filter. -/
def fs (b : Fin 8) (n : Nat) : EReal :=
  if hi y b n - lo y b n + 1 < Ideal.ofBits FTy.f32 0x41000000#32 then 0 else sc x b n

/-- The first 2000 values of `p` in descending order of `f`, zero after. -/
def srt (f p : Nat → EReal) (i : Nat) : EReal := if h : i < 2000 then p (ordS 5120 f ⟨i, by omega⟩).val else 0

/-- The starts in order of score. -/
def S (b : Fin 8) : Nat → EReal := srt (fs x y b) (lo y b)

/-- The ends in order of score. -/
def E (b : Fin 8) : Nat → EReal := srt (fs x y b) (hi y b)

open Classical in
/-- The kept positions, in order. -/
def kept (b : Fin 8) : List Nat := (List.range 2048).filter fun i => decide (Kp (ovl (S x y b) (E x y b)) 2000 i)

open Classical in
/-- Row `t` of batch `b` of the result, without the batch's number. -/
def row (b : Fin 8) (t : Nat) (ch : Fin 2) : EReal :=
  if t < Nat.count (Kp (ovl (S x y b) (E x y b)) 2000) 2048 then (if ch.val < 1 then S x y b else E x y b) ((kept x y b).getD t 0) else 0

/-- The whole result: the batch's number, then the start and the end. -/
def res : FVec Ideal ⟨3, ![8, 300, 3]⟩ .f32 := fun i =>
  if h : (i 2).val < 1 then FloatOps.sitofp (F := Ideal) FTy.f32 (BitVec.ofNat 32 (i 0).val)
  else row x y (i 0) (i 1).val ⟨(i 2).val - 1, by have : (i 2).val < 3 := (i 2).isLt; omega⟩

/-- The result at an index. -/
theorem res_at (b : Fin 8) (t : Fin 300) (ch : Fin 3) : res x y (ix3 b t ch)
    = if h : ch.val < 1 then FloatOps.sitofp (F := Ideal) FTy.f32 (BitVec.ofNat 32 b.val) else row x y b t.val ⟨ch.val - 1, by omega⟩ := rfl

end Cert.Spec
-- ==== Proof.KerHost.lean ====
module

public import proofs.«01_k».proof.Proof.Gen.KernelIdeal.Frame
public import proofs.«01_k».proof.Proof.Tab
public import proofs.«01_k».proof.Proof.Sort
public import proofs.«01_k».proof.Proof.Spec
public import Idealize.ShloMosaic.Lib.StableHlo.ReadAt
public import Idealize.ShloMosaic.Lib.Pointwise

@[expose] public section

set_option maxRecDepth 16384

/-! What the kernel's host operations before the first launch leave, at an index. -/

noncomputable section

namespace Cert.Ker

open Idealize.ShloMosaic Idealize.SL.Sem Cert.KernelIdeal Cert.KernelIdeal.Gen

variable (V : Valuation τ sig (Elt Ideal))

/-- The scores given to the first launch. -/
theorem sc_at (b : Fin 8) (n : Fin 5120) :
    (StableHlo.after hostOps0 V (Proc.devRef .tc main_call0_v3) : FVec Ideal S8x5120 .f32) (ix2 b n)
      = (V (Proc.devRef .tc main_arg0) : FVec Ideal S8x20x512x1x1 .f32) (ix5 b ⟨10 + n.val % 10, by omega⟩ ⟨n.val / 10, by omega⟩ 0 0) := by
  after_reads_at

/-- The centre deltas given to the first launch. -/
theorem dx_at (b : Fin 8) (n : Fin 5120) :
    (StableHlo.after hostOps0 V (Proc.devRef .tc main_call0_v8) : FVec Ideal S8x5120 .f32) (ix2 b n)
      = (V (Proc.devRef .tc main_arg1) : FVec Ideal S8x20x512x1x1 .f32) (ix5 b ⟨n.val % 10 * 2, by omega⟩ ⟨n.val / 10, by omega⟩ 0 0) := by
  after_reads_at

/-- The length deltas given to the first launch. -/
theorem dl_at (b : Fin 8) (n : Fin 5120) :
    (StableHlo.after hostOps0 V (Proc.devRef .tc main_call0_v10) : FVec Ideal S8x5120 .f32) (ix2 b n)
      = (V (Proc.devRef .tc main_arg1) : FVec Ideal S8x20x512x1x1 .f32) (ix5 b ⟨n.val % 10 * 2 + 1, by omega⟩ ⟨n.val / 10, by omega⟩ 0 0) := by
  after_reads_at

/-- The widths given to the first launch. -/
theorem w_at (n : Fin 5120) :
    (StableHlo.after hostOps0 V (Proc.devRef .tc main_call0_v11) : FVec Ideal S1x5120 .f32) (ix2 0 n) = Tab.wS n.val := by
  rw [← Tab.lit0_val n]
  after_reads_at
  refine congrArg (fun k => Ideal.ofBits FTy.f32 (lit0 k)) (Fin.ext ?_)
  exact Shape.rowMajor_val_one _

/-- The centres given to the first launch. -/
theorem c_at (n : Fin 5120) :
    (StableHlo.after hostOps0 V (Proc.devRef .tc main_call0_v12) : FVec Ideal S1x5120 .f32) (ix2 0 n) = Tab.cS n.val := by
  rw [← Tab.lit1_val n]
  after_reads_at
  refine congrArg (fun k => Ideal.ofBits FTy.f32 (lit1 k)) (Fin.ext ?_)
  exact Shape.rowMajor_val_one _

/-- The kernel's result: the batch's number, then the pairs the second launch leaves. -/
theorem out_at (b : Fin 8) (t : Fin 300) (ch : Fin 3) :
    (StableHlo.after hostOps2 V (Proc.devRef .tc main_v0) : FVec Ideal S8x300x3 .f32) (ix3 b t ch)
      = if h : ch.val < 1 then FloatOps.sitofp (F := Ideal) FTy.f32 (BitVec.ofNat 32 b.val)
        else (V (Proc.devRef .tc main_call0_v25) : FVec Ideal S8x300x2 .f32) (ix3 b t ⟨ch.val - 1, by omega⟩) := by
  after_reads_at
  split
  · after_reads_at
  · after_reads_at

section Sorted

attribute [local irreducible] Nms.ordS

variable {f p e : Fin 8 → Nat → EReal}
  (hf : ∀ b (n : Fin 5120), (V (Proc.devRef .tc main_call0_v13_2) : FVec Ideal S8x5120 .f32) (ix2 b n) = f b n)
  (hp : ∀ b (n : Fin 5120), (V (Proc.devRef .tc main_call0_v13_0) : FVec Ideal S8x5120 .f32) (ix2 b n) = p b n)
  (he : ∀ b (n : Fin 5120), (V (Proc.devRef .tc main_call0_v13_1) : FVec Ideal S8x5120 .f32) (ix2 b n) = e b n)

include hf hp

/-- The sorted starts, as a column. -/
theorem s_at (b : Fin 8) (n : Fin 2048) :
    (StableHlo.after hostOps1 V (Proc.devRef .tc main_call0_v21) : FVec Ideal S8x2048x1 .f32) (ix3 b n 0) = Spec.srt (f b) (p b) n := by
  after_reads_at
  unfold Spec.srt
  split
  · rename_i h
    refine Eq.trans (Nms.take2 _ _ rfl _ _ _ _ _ _ _ _ (Nms.topK_at _ _ _ b (hf b) ⟨n, h⟩) (Fin.isLt _) (by omega) rfl ?_) (hp b (Nms.ordS 5120 (f b) ⟨n, by omega⟩))
    rfl
  · exact (Nms.sitofp_ofNat 0 (by omega)).trans (by norm_num)

/-- The sorted starts, as a row. -/
theorem s_row_at (b : Fin 8) (n : Fin 2048) :
    (StableHlo.after hostOps1 V (Proc.devRef .tc main_call0_v23) : FVec Ideal S8x1x2048 .f32) (ix3 b 0 n) = Spec.srt (f b) (p b) n := by
  after_reads_at
  unfold Spec.srt
  split
  · rename_i h
    refine Eq.trans (Nms.take2 _ _ rfl _ _ _ _ _ _ _ _ (Nms.topK_at _ _ _ b (hf b) ⟨n, h⟩) (Fin.isLt _) (by omega) rfl ?_) (hp b (Nms.ordS 5120 (f b) ⟨n, by omega⟩))
    rfl
  · exact (Nms.sitofp_ofNat 0 (by omega)).trans (by norm_num)

omit hp
include he

/-- The sorted ends, as a column. -/
theorem e_at (b : Fin 8) (n : Fin 2048) :
    (StableHlo.after hostOps1 V (Proc.devRef .tc main_call0_v22) : FVec Ideal S8x2048x1 .f32) (ix3 b n 0) = Spec.srt (f b) (e b) n := by
  after_reads_at
  unfold Spec.srt
  split
  · rename_i h
    refine Eq.trans (Nms.take2 _ _ rfl _ _ _ _ _ _ _ _ (Nms.topK_at _ _ _ b (hf b) ⟨n, h⟩) (Fin.isLt _) (by omega) rfl ?_) (he b (Nms.ordS 5120 (f b) ⟨n, by omega⟩))
    rfl
  · exact (Nms.sitofp_ofNat 0 (by omega)).trans (by norm_num)

/-- The sorted ends, as a row. -/
theorem e_row_at (b : Fin 8) (n : Fin 2048) :
    (StableHlo.after hostOps1 V (Proc.devRef .tc main_call0_v24) : FVec Ideal S8x1x2048 .f32) (ix3 b 0 n) = Spec.srt (f b) (e b) n := by
  after_reads_at
  unfold Spec.srt
  split
  · rename_i h
    refine Eq.trans (Nms.take2 _ _ rfl _ _ _ _ _ _ _ _ (Nms.topK_at _ _ _ b (hf b) ⟨n, h⟩) (Fin.isLt _) (by omega) rfl ?_) (he b (Nms.ordS 5120 (f b) ⟨n, by omega⟩))
    rfl
  · exact (Nms.sitofp_ofNat 0 (by omega)).trans (by norm_num)

include hp

/-- The sorted pairs. -/
theorem q_at (b : Fin 8) (n : Fin 2048) (ch : Fin 2) :
    (StableHlo.after hostOps1 V (Proc.devRef .tc main_call0_v20) : FVec Ideal S8x2048x2 .f32) (ix3 b n ch)
      = (if ch.val < 1 then Spec.srt (f b) (p b) else Spec.srt (f b) (e b)) n := by
  after_reads_at
  split
  · after_reads_at
    unfold Spec.srt
    split
    · rename_i h
      refine Eq.trans (Nms.take2 _ _ rfl _ _ _ _ _ _ _ _ (Nms.topK_at _ _ _ b (hf b) ⟨n, h⟩) (Fin.isLt _) (by omega) rfl ?_) (hp b (Nms.ordS 5120 (f b) ⟨n, by omega⟩))
      rfl
    · exact (Nms.sitofp_ofNat 0 (by omega)).trans (by norm_num)
  · after_reads_at
    unfold Spec.srt
    split
    · rename_i h
      refine Eq.trans (Nms.take2 _ _ rfl _ _ _ _ _ _ _ _ (Nms.topK_at _ _ _ b (hf b) ⟨n, h⟩) (Fin.isLt _) (by omega) rfl ?_) (he b (Nms.ordS 5120 (f b) ⟨n, by omega⟩))
      rfl
    · exact (Nms.sitofp_ofNat 0 (by omega)).trans (by norm_num)

end Sorted

end Cert.Ker
-- ==== Proof.RunOut.lean ====
module

public import proofs.«01_k».proof.Proof.RunVal
public import Idealize.ShloMosaic.Lib.VecWindow

@[expose] public section

set_option maxRecDepth 16384
set_option maxHeartbeats 4000000

/-! The pieces the second kernel's run leaves in its output. -/

noncomputable section

namespace Cert.Nms

open Idealize.ShloMosaic Idealize.SL.Sem Cert.KernelIdeal Cert.KernelIdeal.Gen

variable {F : FTy → Type} [FloatOps F]

variable (c : Dev nD) (arg0 : Memref sig .tc .vmem S8x2048x1 .f32) (harg0 : arg0.IsWhole) (arg1 : Memref sig .tc .vmem S8x2048x1 .f32) (harg1 : arg1.IsWhole)
  (arg2 : Memref sig .tc .vmem S8x1x2048 .f32) (harg2 : arg2.IsWhole) (arg3 : Memref sig .tc .vmem S8x1x2048 .f32) (harg3 : arg3.IsWhole)
  (arg4 : Memref sig .tc .vmem S8x2048x2 .f32) (harg4 : arg4.IsWhole) (arg5 : Memref sig .tc .vmem S8x300x2 .f32) (harg5 : arg5.IsWhole)
  (arg6 : Memref sig .tc .vmem S8x256x256 .f32) (harg6 : arg6.IsWhole)
  (x0 : Vec F S8x2048x1 .f32) (x1 : Vec F S8x2048x1 .f32) (x2 : Vec F S8x1x2048 .f32) (x3 : Vec F S8x1x2048 .f32) (x4 : Vec F S8x2048x2 .f32)

/-- Batch row `bb`'s output, from the keep bits after each block. -/
def pieceV (bb : Nat) (hbb : bb < 8) (inb : ∀ a, (![bb, 0, 0] : Fin 3 → Nat) a + S1x2048x2.size a ≤ S8x2048x2.size a) : FVec F S1x300x2 .f32 :=
  outV (fun n => pickV hbb (LK c arg0 harg0 arg1 harg1 arg2 harg2 arg3 harg3 arg4 harg4 arg5 harg5 arg6 harg6 x0 x1 x2 x3 n)) (propV arg4 harg4 x4 bb inb)

/-- The pieces the run leaves, one per batch row. -/
theorem run_pieces : (kernelRun1_A c arg0 harg0 arg1 harg1 arg2 harg2 arg3 harg3 arg4 harg4 arg5 harg5 arg6 harg6 x0 x1 x2 x3 x4).1 = [
    ⟨Rect.unit (s := S8x300x2) ![7, 0, 0] S1x300x2.size (by decide), pieceV c arg0 harg0 arg1 harg1 arg2 harg2 arg3 harg3 arg4 harg4 arg5 harg5 arg6 harg6 x0 x1 x2 x3 x4 7 (by decide) (by decide)⟩,
    ⟨Rect.unit (s := S8x300x2) ![6, 0, 0] S1x300x2.size (by decide), pieceV c arg0 harg0 arg1 harg1 arg2 harg2 arg3 harg3 arg4 harg4 arg5 harg5 arg6 harg6 x0 x1 x2 x3 x4 6 (by decide) (by decide)⟩,
    ⟨Rect.unit (s := S8x300x2) ![5, 0, 0] S1x300x2.size (by decide), pieceV c arg0 harg0 arg1 harg1 arg2 harg2 arg3 harg3 arg4 harg4 arg5 harg5 arg6 harg6 x0 x1 x2 x3 x4 5 (by decide) (by decide)⟩,
    ⟨Rect.unit (s := S8x300x2) ![4, 0, 0] S1x300x2.size (by decide), pieceV c arg0 harg0 arg1 harg1 arg2 harg2 arg3 harg3 arg4 harg4 arg5 harg5 arg6 harg6 x0 x1 x2 x3 x4 4 (by decide) (by decide)⟩,
    ⟨Rect.unit (s := S8x300x2) ![3, 0, 0] S1x300x2.size (by decide), pieceV c arg0 harg0 arg1 harg1 arg2 harg2 arg3 harg3 arg4 harg4 arg5 harg5 arg6 harg6 x0 x1 x2 x3 x4 3 (by decide) (by decide)⟩,
    ⟨Rect.unit (s := S8x300x2) ![2, 0, 0] S1x300x2.size (by decide), pieceV c arg0 harg0 arg1 harg1 arg2 harg2 arg3 harg3 arg4 harg4 arg5 harg5 arg6 harg6 x0 x1 x2 x3 x4 2 (by decide) (by decide)⟩,
    ⟨Rect.unit (s := S8x300x2) ![1, 0, 0] S1x300x2.size (by decide), pieceV c arg0 harg0 arg1 harg1 arg2 harg2 arg3 harg3 arg4 harg4 arg5 harg5 arg6 harg6 x0 x1 x2 x3 x4 1 (by decide) (by decide)⟩,
    ⟨Rect.unit (s := S8x300x2) ![0, 0, 0] S1x300x2.size (by decide), pieceV c arg0 harg0 arg1 harg1 arg2 harg2 arg3 harg3 arg4 harg4 arg5 harg5 arg6 harg6 x0 x1 x2 x3 x4 0 (by decide) (by decide)⟩] := by
  unfold kernelRun1_A pieceV
  dsimp only
  congr 1

end Cert.Nms
-- ==== Proof.Out.lean ====
module

public import proofs.«01_k».proof.Proof.RunOut
public import proofs.«01_k».proof.Proof.Greedy
public import Idealize.ShloMosaic.Lib.WritesUnit

@[expose] public section

set_option maxRecDepth 16384

/-! What the second kernel's run leaves in its output, at an index. -/

noncomputable section

namespace Cert.Nms

open Idealize.ShloMosaic Idealize.SL.Sem Cert.KernelIdeal Cert.KernelIdeal.Gen

variable (c : Dev nD) (arg0 : Memref sig .tc .vmem S8x2048x1 .f32) (harg0 : arg0.IsWhole) (arg1 : Memref sig .tc .vmem S8x2048x1 .f32) (harg1 : arg1.IsWhole)
  (arg2 : Memref sig .tc .vmem S8x1x2048 .f32) (harg2 : arg2.IsWhole) (arg3 : Memref sig .tc .vmem S8x1x2048 .f32) (harg3 : arg3.IsWhole)
  (arg4 : Memref sig .tc .vmem S8x2048x2 .f32) (harg4 : arg4.IsWhole) (arg5 : Memref sig .tc .vmem S8x300x2 .f32) (harg5 : arg5.IsWhole)
  (arg6 : Memref sig .tc .vmem S8x256x256 .f32) (harg6 : arg6.IsWhole)
  (x0 : Vec Ideal S8x2048x1 .f32) (x1 : Vec Ideal S8x2048x1 .f32) (x2 : Vec Ideal S8x1x2048 .f32) (x3 : Vec Ideal S8x1x2048 .f32) (x4 : Vec Ideal S8x2048x2 .f32)

/-- The intervals the four arrays hold. -/
structure Holds (s e : Fin 8 → Nat → EReal) : Prop where
  h0 : ∀ (bb : Fin 8) (i : Fin 2048), (x0 : FVec Ideal S8x2048x1 .f32) (ix3 bb i 0) = s bb i
  h1 : ∀ (bb : Fin 8) (i : Fin 2048), (x1 : FVec Ideal S8x2048x1 .f32) (ix3 bb i 0) = e bb i
  h2 : ∀ (bb : Fin 8) (i : Fin 2048), (x2 : FVec Ideal S8x1x2048 .f32) (ix3 bb 0 i) = s bb i
  h3 : ∀ (bb : Fin 8) (i : Fin 2048), (x3 : FVec Ideal S8x1x2048 .f32) (ix3 bb 0 i) = e bb i

/-- A whole buffer read back through its own rectangle is its contents. -/
theorem readAt_whole {S : Shape} (arg : Memref sig .tc .vmem S .f32) (h : arg.IsWhole) (x : Vec Ideal S .f32) (off : Fin S.rank → Nat)
    (inb : ∀ a, off a + S.size a ≤ S.size a) :
    View.readAt (Elt Ideal) arg.view (Rect.unit (s := S) off S.size inb).toLoadRect (h.unread x) = x := by
  funext i
  show arg.view.read (Elt Ideal) (h.unread x) ((Rect.unit (s := S) off S.size inb).idx i) = x i
  rw [h.read_unread]
  refine congrArg x (funext fun a => Fin.ext ?_)
  have := inb a
  show off a + 1 * (i a).val = (i a).val
  omega

variable {s e : Fin 8 → Nat → EReal} (H : Holds x0 x1 x2 x3 s e)
include H

/-- The arrays that the body loads hold the starts, the ends and the lengths. -/
theorem src_of : SrcOf (src c arg0 harg0 arg1 harg1 arg2 harg2 arg3 harg3 x0 x1 x2 x3) s e := by
  have e0 : kernelRun1_A.sl.r c arg0 harg0 x0 = (x0 : FVec Ideal S8x2048x1 .f32) := by
    unfold kernelRun1_A.sl.r k1_pay2
    dsimp only
    rw [shapeCast_self, readAt_whole]
  have e1 : kernelRun1_A.sl.r_1 c arg1 harg1 x1 = (x1 : FVec Ideal S8x2048x1 .f32) := by
    unfold kernelRun1_A.sl.r_1 k1_pay3
    dsimp only
    rw [shapeCast_self, readAt_whole]
  have e2 : kernelRun1_A.sl.r_2 c arg2 harg2 x2 = (x2 : FVec Ideal S8x1x2048 .f32) := by
    unfold kernelRun1_A.sl.r_2 k1_pay4
    dsimp only
    rw [shapeCast_self, readAt_whole]
  have e3 : kernelRun1_A.sl.r_3 c arg3 harg3 x3 = (x3 : FVec Ideal S8x1x2048 .f32) := by
    unfold kernelRun1_A.sl.r_3 k1_pay5
    dsimp only
    rw [shapeCast_self, readAt_whole]
  have e4 : kernelRun1_A.sl.r_4 c arg0 harg0 arg1 harg1 x0 x1 = k1_pay6 x0 x1 := by
    unfold kernelRun1_A.sl.r_4
    rw [readAt_whole, readAt_whole]
  have e5 : kernelRun1_A.sl.r_5 c arg2 harg2 arg3 harg3 x2 x3 = k1_pay7 x2 x3 := by
    unfold kernelRun1_A.sl.r_5
    rw [readAt_whole, readAt_whole]
  refine ⟨fun bb i => ?_, fun bb i => ?_, fun bb i => ?_, fun bb i => ?_, fun bb i => ?_, fun bb i => ?_⟩
  · exact (congrFun e0 _).trans (H.h0 bb i)
  · exact (congrFun e1 _).trans (H.h1 bb i)
  · refine (congrFun e4 _).trans ?_
    unfold k1_pay6 k1_pay2 k1_pay3
    dsimp only
    rw [shapeCast_self, shapeCast_self]
    pointwise
    rw [H.h0, H.h1]
  · exact (congrFun e2 _).trans (H.h2 bb i)
  · exact (congrFun e3 _).trans (H.h3 bb i)
  · refine (congrFun e5 _).trans ?_
    unfold k1_pay7 k1_pay4 k1_pay5
    dsimp only
    rw [shapeCast_self, shapeCast_self]
    pointwise
    rw [H.h2, H.h3]

/-- The keep bits of the first block. -/
theorem LK_zero (bb : Fin 8) (j : Fin 256) : LK c arg0 harg0 arg1 harg1 arg2 harg2 arg3 harg3 arg4 harg4 arg5 harg5 arg6 harg6 x0 x1 x2 x3 0 (ix2 bb j) = ind (Kp (ovl (s bb) (e bb)) 2000 (256 * 0 + j)) :=
  (congrFun (lk0 c arg0 harg0 arg1 harg1 arg2 harg2 arg3 harg3 arg4 harg4 arg5 harg5 arg6 harg6 x0 x1 x2 x3) _).trans (block0_ind (src_of c arg0 harg0 arg1 harg1 arg2 harg2 arg3 harg3 x0 x1 x2 x3 H) bb j)

/-- The keep bits of the second block. -/
theorem LK_one (bb : Fin 8) (j : Fin 256) : LK c arg0 harg0 arg1 harg1 arg2 harg2 arg3 harg3 arg4 harg4 arg5 harg5 arg6 harg6 x0 x1 x2 x3 1 (ix2 bb j) = ind (Kp (ovl (s bb) (e bb)) 2000 (256 * 1 + j)) := by
  refine (congrFun (lk1 c arg0 harg0 arg1 harg1 arg2 harg2 arg3 harg3 arg4 harg4 arg5 harg5 arg6 harg6 x0 x1 x2 x3) _).trans (block_ind (src_of c arg0 harg0 arg1 harg1 arg2 harg2 arg3 harg3 x0 x1 x2 x3 H) 1 (by decide) _ (fun bb i => ?_) bb j)
  refine (pickV_apply bb.isLt (LK c arg0 harg0 arg1 harg1 arg2 harg2 arg3 harg3 arg4 harg4 arg5 harg5 arg6 harg6 x0 x1 x2 x3 0) i).trans ((LK_zero c arg0 harg0 arg1 harg1 arg2 harg2 arg3 harg3 arg4 harg4 arg5 harg5 arg6 harg6 x0 x1 x2 x3 H bb i).trans ?_)
  rw [Nat.mul_zero, Nat.zero_add]

/-- A block's keep bits are the greedy choice, where those of the blocks before are. -/
theorem LK_of (b : Nat) (hb : b < 8) (hb2 : 2 ≤ b)
    (lk : LK c arg0 harg0 arg1 harg1 arg2 harg2 arg3 harg3 arg4 harg4 arg5 harg5 arg6 harg6 x0 x1 x2 x3 b = loopV (wbV (src c arg0 harg0 arg1 harg1 arg2 harg2 arg3 harg3 x0 x1 x2 x3) b hb)
      (initV (src c arg0 harg0 arg1 harg1 arg2 harg2 arg3 harg3 x0 x1 x2 x3) b hb fun bb => catV b hb2 fun n => pickV bb.isLt (LK c arg0 harg0 arg1 harg1 arg2 harg2 arg3 harg3 arg4 harg4 arg5 harg5 arg6 harg6 x0 x1 x2 x3 n)) k1_t1_loop.trips)
    (ih : ∀ n, n < b → ∀ (bb : Fin 8) (j : Fin 256), LK c arg0 harg0 arg1 harg1 arg2 harg2 arg3 harg3 arg4 harg4 arg5 harg5 arg6 harg6 x0 x1 x2 x3 n (ix2 bb j) = ind (Kp (ovl (s bb) (e bb)) 2000 (256 * n + j)))
    (bb : Fin 8) (j : Fin 256) : LK c arg0 harg0 arg1 harg1 arg2 harg2 arg3 harg3 arg4 harg4 arg5 harg5 arg6 harg6 x0 x1 x2 x3 b (ix2 bb j) = ind (Kp (ovl (s bb) (e bb)) 2000 (256 * b + j)) := by
  refine (congrFun lk _).trans (block_ind (src_of c arg0 harg0 arg1 harg1 arg2 harg2 arg3 harg3 x0 x1 x2 x3 H) b hb _ (fun bb i => ?_) bb j)
  refine cat_ind b hb2 (fun n => pickV bb.isLt (LK c arg0 harg0 arg1 harg1 arg2 harg2 arg3 harg3 arg4 harg4 arg5 harg5 arg6 harg6 x0 x1 x2 x3 n)) (fun n => ind (Kp (ovl (s bb) (e bb)) 2000 n)) (fun n l => ?_) i
  exact (pickV_apply bb.isLt (LK c arg0 harg0 arg1 harg1 arg2 harg2 arg3 harg3 arg4 harg4 arg5 harg5 arg6 harg6 x0 x1 x2 x3 n) l).trans (ih n n.isLt bb l)

/-- The keep bits of every block are the greedy choice. -/
theorem LK_ind (b : Nat) (hb : b < 8) : ∀ (bb : Fin 8) (j : Fin 256), LK c arg0 harg0 arg1 harg1 arg2 harg2 arg3 harg3 arg4 harg4 arg5 harg5 arg6 harg6 x0 x1 x2 x3 b (ix2 bb j) = ind (Kp (ovl (s bb) (e bb)) 2000 (256 * b + j)) := by
  induction b using Nat.strong_induction_on with
  | _ b ih =>
    intro bb j
    match b, hb, ih with
    | 0, _, _ => exact LK_zero c arg0 harg0 arg1 harg1 arg2 harg2 arg3 harg3 arg4 harg4 arg5 harg5 arg6 harg6 x0 x1 x2 x3 H bb j
    | 1, _, _ => exact LK_one c arg0 harg0 arg1 harg1 arg2 harg2 arg3 harg3 arg4 harg4 arg5 harg5 arg6 harg6 x0 x1 x2 x3 H bb j
    | 2, hb, ih => exact LK_of c arg0 harg0 arg1 harg1 arg2 harg2 arg3 harg3 arg4 harg4 arg5 harg5 arg6 harg6 x0 x1 x2 x3 H 2 hb (by decide) (lk2 c arg0 harg0 arg1 harg1 arg2 harg2 arg3 harg3 arg4 harg4 arg5 harg5 arg6 harg6 x0 x1 x2 x3) (fun n hn => ih n hn (by omega)) bb j
    | 3, hb, ih => exact LK_of c arg0 harg0 arg1 harg1 arg2 harg2 arg3 harg3 arg4 harg4 arg5 harg5 arg6 harg6 x0 x1 x2 x3 H 3 hb (by decide) (lk3 c arg0 harg0 arg1 harg1 arg2 harg2 arg3 harg3 arg4 harg4 arg5 harg5 arg6 harg6 x0 x1 x2 x3) (fun n hn => ih n hn (by omega)) bb j
    | 4, hb, ih => exact LK_of c arg0 harg0 arg1 harg1 arg2 harg2 arg3 harg3 arg4 harg4 arg5 harg5 arg6 harg6 x0 x1 x2 x3 H 4 hb (by decide) (lk4 c arg0 harg0 arg1 harg1 arg2 harg2 arg3 harg3 arg4 harg4 arg5 harg5 arg6 harg6 x0 x1 x2 x3) (fun n hn => ih n hn (by omega)) bb j
    | 5, hb, ih => exact LK_of c arg0 harg0 arg1 harg1 arg2 harg2 arg3 harg3 arg4 harg4 arg5 harg5 arg6 harg6 x0 x1 x2 x3 H 5 hb (by decide) (lk5 c arg0 harg0 arg1 harg1 arg2 harg2 arg3 harg3 arg4 harg4 arg5 harg5 arg6 harg6 x0 x1 x2 x3) (fun n hn => ih n hn (by omega)) bb j
    | 6, hb, ih => exact LK_of c arg0 harg0 arg1 harg1 arg2 harg2 arg3 harg3 arg4 harg4 arg5 harg5 arg6 harg6 x0 x1 x2 x3 H 6 hb (by decide) (lk6 c arg0 harg0 arg1 harg1 arg2 harg2 arg3 harg3 arg4 harg4 arg5 harg5 arg6 harg6 x0 x1 x2 x3) (fun n hn => ih n hn (by omega)) bb j
    | 7, hb, ih => exact LK_of c arg0 harg0 arg1 harg1 arg2 harg2 arg3 harg3 arg4 harg4 arg5 harg5 arg6 harg6 x0 x1 x2 x3 H 7 hb (by decide) (lk7 c arg0 harg0 arg1 harg1 arg2 harg2 arg3 harg3 arg4 harg4 arg5 harg5 arg6 harg6 x0 x1 x2 x3) (fun n hn => ih n hn (by omega)) bb j
    | n + 8, hb, _ => omega

open Classical in
/-- A batch row's output: the kept intervals in order, then zeros. -/
theorem piece_value (q : Fin 8 → Nat → Fin 2 → EReal) (h4 : ∀ (bb : Fin 8) (i : Fin 2048) (ch : Fin 2), (x4 : FVec Ideal S8x2048x2 .f32) (ix3 bb i ch) = q bb i ch)
    (bb : Nat) (hbb : bb < 8) (inb : ∀ a, (![bb, 0, 0] : Fin 3 → Nat) a + S1x2048x2.size a ≤ S8x2048x2.size a) (t : Fin 300) (ch : Fin 2) :
    pieceV c arg0 harg0 arg1 harg1 arg2 harg2 arg3 harg3 arg4 harg4 arg5 harg5 arg6 harg6 x0 x1 x2 x3 x4 bb hbb inb (ix3 0 t ch)
      = if t.val < Nat.count (Kp (ovl (s ⟨bb, hbb⟩) (e ⟨bb, hbb⟩)) 2000) 2048 then
          q ⟨bb, hbb⟩ (((List.range 2048).filter fun i => decide (Kp (ovl (s ⟨bb, hbb⟩) (e ⟨bb, hbb⟩)) 2000 i)).getD t 0) ch else 0 := by
  unfold pieceV
  refine out_count _ (Kp (ovl (s ⟨bb, hbb⟩) (e ⟨bb, hbb⟩)) 2000) (fun b hb l => ?_) _ (q ⟨bb, hbb⟩) (fun i ch => ?_) t ch
  · exact (pickV_apply hbb (LK c arg0 harg0 arg1 harg1 arg2 harg2 arg3 harg3 arg4 harg4 arg5 harg5 arg6 harg6 x0 x1 x2 x3 b) l).trans (LK_ind c arg0 harg0 arg1 harg1 arg2 harg2 arg3 harg3 arg4 harg4 arg5 harg5 arg6 harg6 x0 x1 x2 x3 H b hb ⟨bb, hbb⟩ l)
  · refine Eq.trans ?_ (h4 ⟨bb, hbb⟩ i ch)
    show arg4.view.read (Elt Ideal) (harg4.unread x4) ((Rect.unit (s := S8x2048x2) ![bb, 0, 0] S1x2048x2.size inb).idx (ix3 0 i ch)) = _
    rw [harg4.read_unread]
    refine congrArg x4 (funext fun a => Fin.ext ?_)
    match a with
    | ⟨0, _⟩ => rfl
    | ⟨1, _⟩ => show 0 + 1 * i.val = i.val; omega
    | ⟨2, _⟩ => show 0 + 1 * ch.val = ch.val; omega

open Classical in
/-- The output block: each batch row's kept intervals in order, then zeros. -/
theorem out_value (q : Fin 8 → Nat → Fin 2 → EReal) (h4 : ∀ (bb : Fin 8) (i : Fin 2048) (ch : Fin 2), (x4 : FVec Ideal S8x2048x2 .f32) (ix3 bb i ch) = q bb i ch)
    (bb : Fin 8) (t : Fin 300) (ch : Fin 2) :
    (out1_A_5 c arg0 harg0 arg1 harg1 arg2 harg2 arg3 harg3 arg4 harg4 arg5 harg5 arg6 harg6 x0 x1 x2 x3 x4 : FVec Ideal S8x300x2 .f32) (ix3 bb t ch)
      = if t.val < Nat.count (Kp (ovl (s bb) (e bb)) 2000) 2048 then
          q bb (((List.range 2048).filter fun i => decide (Kp (ovl (s bb) (e bb)) 2000 i)).getD t 0) ch else 0 := by
  unfold out1_A_5
  rw [run_pieces]
  have hit : ∀ (n : Nat) (hn : n < 8) (inb inb') (L : List (View.Piece (Elt Ideal) S8x300x2 .f32)) (h : bb.val = n),
      VO1_5.read (Elt Ideal) (VO1_5.writes (Elt Ideal) VO1_5.junk (⟨Rect.unit (s := S8x300x2) ![n, 0, 0] S1x300x2.size inb,
        pieceV c arg0 harg0 arg1 harg1 arg2 harg2 arg3 harg3 arg4 harg4 arg5 harg5 arg6 harg6 x0 x1 x2 x3 x4 n hn inb'⟩ :: L)) (ix3 bb t ch)
      = if t.val < Nat.count (Kp (ovl (s bb) (e bb)) 2000) 2048 then
          q bb (((List.range 2048).filter fun i => decide (Kp (ovl (s bb) (e bb)) 2000 i)).getD t 0) ch else 0 := by
    intro n hn inb inb' L h
    obtain rfl : bb = ⟨n, hn⟩ := Fin.ext h
    rw [View.read_writes_cons_unit_of_mem _ _ _ _ _ _ (ix3 0 t ch) rfl ?_]
    · exact piece_value c arg0 harg0 arg1 harg1 arg2 harg2 arg3 harg3 arg4 harg4 arg5 harg5 arg6 harg6 x0 x1 x2 x3 x4 H q h4 n hn inb' t ch
    · intro a
      match a with
      | ⟨0, _⟩ => rfl
      | ⟨1, _⟩ => exact (Nat.zero_add _).symm
      | ⟨2, _⟩ => exact (Nat.zero_add _).symm
  have skip : ∀ (n : Nat) (inb) (w) (L : List (View.Piece (Elt Ideal) S8x300x2 .f32)) (h : bb.val < n),
      VO1_5.read (Elt Ideal) (VO1_5.writes (Elt Ideal) VO1_5.junk (⟨Rect.unit (s := S8x300x2) ![n, 0, 0] S1x300x2.size inb, w⟩ :: L)) (ix3 bb t ch)
      = VO1_5.read (Elt Ideal) (VO1_5.writes (Elt Ideal) VO1_5.junk L) (ix3 bb t ch) := by
    intro n inb w L h
    exact View.read_writes_cons_unit_of_not_mem _ _ _ _ _ _ rfl 0 (Or.inl h)
  obtain ⟨b, hb⟩ := bb
  match b, hb, hit, skip with
  | 0, _, hit, skip => exact (skip 7 _ _ _ (by show 0 < 7; decide)).trans ((skip 6 _ _ _ (by show 0 < 6; decide)).trans ((skip 5 _ _ _ (by show 0 < 5; decide)).trans ((skip 4 _ _ _ (by show 0 < 4; decide)).trans ((skip 3 _ _ _ (by show 0 < 3; decide)).trans ((skip 2 _ _ _ (by show 0 < 2; decide)).trans ((skip 1 _ _ _ (by show 0 < 1; decide)).trans (hit 0 (by decide) _ _ _ rfl)))))))
  | 1, _, hit, skip => exact (skip 7 _ _ _ (by show 1 < 7; decide)).trans ((skip 6 _ _ _ (by show 1 < 6; decide)).trans ((skip 5 _ _ _ (by show 1 < 5; decide)).trans ((skip 4 _ _ _ (by show 1 < 4; decide)).trans ((skip 3 _ _ _ (by show 1 < 3; decide)).trans ((skip 2 _ _ _ (by show 1 < 2; decide)).trans (hit 1 (by decide) _ _ _ rfl))))))
  | 2, _, hit, skip => exact (skip 7 _ _ _ (by show 2 < 7; decide)).trans ((skip 6 _ _ _ (by show 2 < 6; decide)).trans ((skip 5 _ _ _ (by show 2 < 5; decide)).trans ((skip 4 _ _ _ (by show 2 < 4; decide)).trans ((skip 3 _ _ _ (by show 2 < 3; decide)).trans (hit 2 (by decide) _ _ _ rfl)))))
  | 3, _, hit, skip => exact (skip 7 _ _ _ (by show 3 < 7; decide)).trans ((skip 6 _ _ _ (by show 3 < 6; decide)).trans ((skip 5 _ _ _ (by show 3 < 5; decide)).trans ((skip 4 _ _ _ (by show 3 < 4; decide)).trans (hit 3 (by decide) _ _ _ rfl))))
  | 4, _, hit, skip => exact (skip 7 _ _ _ (by show 4 < 7; decide)).trans ((skip 6 _ _ _ (by show 4 < 6; decide)).trans ((skip 5 _ _ _ (by show 4 < 5; decide)).trans (hit 4 (by decide) _ _ _ rfl)))
  | 5, _, hit, skip => exact (skip 7 _ _ _ (by show 5 < 7; decide)).trans ((skip 6 _ _ _ (by show 5 < 6; decide)).trans (hit 5 (by decide) _ _ _ rfl))
  | 6, _, hit, skip => exact (skip 7 _ _ _ (by show 6 < 7; decide)).trans (hit 6 (by decide) _ _ _ rfl)
  | 7, _, hit, skip => exact hit 7 (by decide) _ _ _ rfl
  | n + 8, hb, _, _ => omega

end Cert.Nms
-- ==== Proof.KerReg.lean ====
module

public import proofs.«01_k».proof.Proof.Gen.KernelIdeal.Frame
public import proofs.«01_k».proof.Proof.Out
public import proofs.«01_k».proof.Proof.Spec
public import Idealize.ShloMosaic.Lib.Pipeline.ValueKit
public import Idealize.ShloMosaic.Lib.Pointwise

@[expose] public section

set_option maxRecDepth 16384

/-! What each of the two launches leaves in its result arrays. Both have a grid of one point whose blocks are the whole
arrays. -/

noncomputable section

namespace Cert.Ker

open Idealize.ShloMosaic Idealize.SL.Sem Cert.KernelIdeal Cert.KernelIdeal.Gen

variable (V : (c : Dev nD) → (b : Ref sig .tc) → Buf (Elt Ideal) ((c.tc : Thread nD τ).loc b))

/-- Window 0 of the first launch is the whole array. -/
theorem e0_0 : ∀ t : Fin cfg0.N, win0_0.index t = ![0, 0] := by decide +kernel
/-- Window 1 of the first launch is the whole array. -/
theorem e0_1 : ∀ t : Fin cfg0.N, win0_1.index t = ![0, 0] := by decide +kernel
/-- Window 2 of the first launch is the whole array. -/
theorem e0_2 : ∀ t : Fin cfg0.N, win0_2.index t = ![0, 0] := by decide +kernel
/-- Window 3 of the first launch is the whole array. -/
theorem e0_3 : ∀ t : Fin cfg0.N, win0_3.index t = ![0, 0] := by decide +kernel
/-- Window 4 of the first launch is the whole array. -/
theorem e0_4 : ∀ t : Fin cfg0.N, win0_4.index t = ![0, 0] := by decide +kernel
/-- Window 5 of the first launch is the whole array. -/
theorem e0_5 : ∀ t : Fin cfg0.N, win0_5.index t = ![0, 0] := by decide +kernel
/-- Window 6 of the first launch is the whole array. -/
theorem e0_6 : ∀ t : Fin cfg0.N, win0_6.index t = ![0, 0] := by decide +kernel
/-- Window 7 of the first launch is the whole array. -/
theorem e0_7 : ∀ t : Fin cfg0.N, win0_7.index t = ![0, 0] := by decide +kernel
/-- Window 0 of the second launch is the whole array. -/
theorem e1_0 : ∀ t : Fin cfg1.N, win1_0.index t = ![0, 0, 0] := by decide +kernel
/-- Window 1 of the second launch is the whole array. -/
theorem e1_1 : ∀ t : Fin cfg1.N, win1_1.index t = ![0, 0, 0] := by decide +kernel
/-- Window 2 of the second launch is the whole array. -/
theorem e1_2 : ∀ t : Fin cfg1.N, win1_2.index t = ![0, 0, 0] := by decide +kernel
/-- Window 3 of the second launch is the whole array. -/
theorem e1_3 : ∀ t : Fin cfg1.N, win1_3.index t = ![0, 0, 0] := by decide +kernel
/-- Window 4 of the second launch is the whole array. -/
theorem e1_4 : ∀ t : Fin cfg1.N, win1_4.index t = ![0, 0, 0] := by decide +kernel
/-- Window 5 of the second launch is the whole array. -/
theorem e1_5 : ∀ t : Fin cfg1.N, win1_5.index t = ![0, 0, 0] := by decide +kernel

/-- Block 0 of the first launch is its argument. -/
theorem blk0_0 (c : Dev nD) (t) : (iblk0 V c 0 t : FVec Ideal S8x5120 .f32) = V c main_call0_v3 := by
  funext y; blk_simp [iblk0]; exact congrArg (V c main_call0_v3) (by blk_ext [e0_0])
/-- Block 1 of the first launch is its argument. -/
theorem blk0_1 (c : Dev nD) (t) : (iblk0 V c 1 t : FVec Ideal S8x5120 .f32) = V c main_call0_v8 := by
  funext y; blk_simp [iblk0]; exact congrArg (V c main_call0_v8) (by blk_ext [e0_1])
/-- Block 2 of the first launch is its argument. -/
theorem blk0_2 (c : Dev nD) (t) : (iblk0 V c 2 t : FVec Ideal S8x5120 .f32) = V c main_call0_v10 := by
  funext y; blk_simp [iblk0]; exact congrArg (V c main_call0_v10) (by blk_ext [e0_2])
/-- Block 3 of the first launch is its argument. -/
theorem blk0_3 (c : Dev nD) (t) : (iblk0 V c 3 t : FVec Ideal S1x5120 .f32) = V c main_call0_v11 := by
  funext y; blk_simp [iblk0]; exact congrArg (V c main_call0_v11) (by blk_ext [e0_3])
/-- Block 4 of the first launch is its argument. -/
theorem blk0_4 (c : Dev nD) (t) : (iblk0 V c 4 t : FVec Ideal S1x5120 .f32) = V c main_call0_v12 := by
  funext y; blk_simp [iblk0]; exact congrArg (V c main_call0_v12) (by blk_ext [e0_4])
/-- Block 0 of the second launch is its argument. -/
theorem blk1_0 (c : Dev nD) (t) : (iblk1 V c 0 t : FVec Ideal S8x2048x1 .f32) = V c main_call0_v21 := by
  funext y; blk_simp [iblk1]; exact congrArg (V c main_call0_v21) (by blk_ext [e1_0])
/-- Block 1 of the second launch is its argument. -/
theorem blk1_1 (c : Dev nD) (t) : (iblk1 V c 1 t : FVec Ideal S8x2048x1 .f32) = V c main_call0_v22 := by
  funext y; blk_simp [iblk1]; exact congrArg (V c main_call0_v22) (by blk_ext [e1_1])
/-- Block 2 of the second launch is its argument. -/
theorem blk1_2 (c : Dev nD) (t) : (iblk1 V c 2 t : FVec Ideal S8x1x2048 .f32) = V c main_call0_v23 := by
  funext y; blk_simp [iblk1]; exact congrArg (V c main_call0_v23) (by blk_ext [e1_2])
/-- Block 3 of the second launch is its argument. -/
theorem blk1_3 (c : Dev nD) (t) : (iblk1 V c 3 t : FVec Ideal S8x1x2048 .f32) = V c main_call0_v24 := by
  funext y; blk_simp [iblk1]; exact congrArg (V c main_call0_v24) (by blk_ext [e1_3])
/-- Block 4 of the second launch is its argument. -/
theorem blk1_4 (c : Dev nD) (t) : (iblk1 V c 4 t : FVec Ideal S8x2048x2 .f32) = V c main_call0_v20 := by
  funext y; blk_simp [iblk1]; exact congrArg (V c main_call0_v20) (by blk_ext [e1_4])

/-- The first launch's first result array. -/
theorem arr0_5 (c : Dev nD) : (dat0 V c).arrAt 5 cfg0.N = out0_5 (V c main_call0_v3) (V c main_call0_v8) (V c main_call0_v10) (V c main_call0_v11) (V c main_call0_v12) := by
  refine (dat0 V c).arrAt_eq_of_covers 5 _ (by decide +kernel) fun t hf y => ?_
  blk_simp
  rw [after0_5, blk0_0, blk0_1, blk0_2, blk0_3, blk0_4]
  exact congrArg (out0_5 (V c main_call0_v3) (V c main_call0_v8) (V c main_call0_v10) (V c main_call0_v11) (V c main_call0_v12)) (by blk_ext [e0_5])

/-- The first launch's second result array. -/
theorem arr0_6 (c : Dev nD) : (dat0 V c).arrAt 6 cfg0.N = out0_6 (V c main_call0_v3) (V c main_call0_v8) (V c main_call0_v10) (V c main_call0_v11) (V c main_call0_v12) := by
  refine (dat0 V c).arrAt_eq_of_covers 6 _ (by decide +kernel) fun t hf y => ?_
  blk_simp
  rw [after0_6, blk0_0, blk0_1, blk0_2, blk0_3, blk0_4]
  exact congrArg (out0_6 (V c main_call0_v3) (V c main_call0_v8) (V c main_call0_v10) (V c main_call0_v11) (V c main_call0_v12)) (by blk_ext [e0_6])

/-- The first launch's third result array. -/
theorem arr0_7 (c : Dev nD) : (dat0 V c).arrAt 7 cfg0.N = out0_7 (V c main_call0_v3) (V c main_call0_v8) (V c main_call0_v10) (V c main_call0_v11) (V c main_call0_v12) := by
  refine (dat0 V c).arrAt_eq_of_covers 7 _ (by decide +kernel) fun t hf y => ?_
  blk_simp
  rw [after0_7, blk0_0, blk0_1, blk0_2, blk0_3, blk0_4]
  exact congrArg (out0_7 (V c main_call0_v3) (V c main_call0_v8) (V c main_call0_v10) (V c main_call0_v11) (V c main_call0_v12)) (by blk_ext [e0_7])

variable (x0 x1 x2 : Vec Ideal S8x5120 .f32) (x3 x4 : Vec Ideal S1x5120 .f32) (b : Fin 8) (n : Fin 5120)

/-- The starts. -/
theorem out_5 : (out0_5 x0 x1 x2 x3 x4 : FVec Ideal S8x5120 .f32) (ix2 b n)
    = Spec.clip (x1 (ix2 b n) * x3 (ix2 0 n) + x4 (ix2 0 n) - Ideal.ofBits FTy.f32 0x3F000000#32 * (Ideal.exp (x2 (ix2 b n)) * x3 (ix2 0 n))) := by
  frame_out
  pointwise [k0_pay6, k0_pay5, k0_pay4, k0_pay2]
  rfl

/-- The ends. -/
theorem out_6 : (out0_6 x0 x1 x2 x3 x4 : FVec Ideal S8x5120 .f32) (ix2 b n)
    = Spec.clip (x1 (ix2 b n) * x3 (ix2 0 n) + x4 (ix2 0 n) + Ideal.ofBits FTy.f32 0x3F000000#32 * (Ideal.exp (x2 (ix2 b n)) * x3 (ix2 0 n))) := by
  frame_out
  pointwise [k0_pay7, k0_pay5, k0_pay4, k0_pay2]
  rfl

/-- The scores after the length filter. -/
theorem out_7 : (out0_7 x0 x1 x2 x3 x4 : FVec Ideal S8x5120 .f32) (ix2 b n)
    = (open Classical in if Spec.clip (x1 (ix2 b n) * x3 (ix2 0 n) + x4 (ix2 0 n) + Ideal.ofBits FTy.f32 0x3F000000#32 * (Ideal.exp (x2 (ix2 b n)) * x3 (ix2 0 n)))
        - Spec.clip (x1 (ix2 b n) * x3 (ix2 0 n) + x4 (ix2 0 n) - Ideal.ofBits FTy.f32 0x3F000000#32 * (Ideal.exp (x2 (ix2 b n)) * x3 (ix2 0 n))) + 1
          < Ideal.ofBits FTy.f32 0x41000000#32 then 0 else x0 (ix2 b n)) := by
  frame_out
  pointwise [k0_pay1, k0_pay3, k0_pay8, k0_pay7, k0_pay6, k0_pay5, k0_pay4, k0_pay2]
  unfold Spec.clip
  congr

open Classical in
/-- Row `t` of a batch: the values `q` at the `t`-th kept position, or zero past the last. -/
def rowOf (s e : Nat → EReal) (q : Nat → Fin 2 → EReal) (t : Nat) (ch : Fin 2) : EReal :=
  if t < Nat.count (Nms.Kp (Nms.ovl s e) 2000) 2048
    then q (((List.range 2048).filter fun i => decide (Nms.Kp (Nms.ovl s e) 2000 i)).getD t 0) ch else 0

/-- The rows of every batch, as one array. -/
def rows (s e : Fin 8 → Nat → EReal) (q : Fin 8 → Nat → Fin 2 → EReal) : FVec Ideal S8x300x2 .f32 :=
  fun i => rowOf (s (i 0)) (e (i 0)) (q (i 0)) (i 1).val (i 2)

/-- What the body of the second launch leaves, as one array. -/
theorem rows_of (c : Dev nD) (arg0 harg0 arg1 harg1 arg2 harg2 arg3 harg3 arg4 harg4 arg5 harg5 arg6 harg6) (x0 : Vec Ideal S8x2048x1 .f32)
    (x1 : Vec Ideal S8x2048x1 .f32) (x2 x3 : Vec Ideal S8x1x2048 .f32) (x4 : Vec Ideal S8x2048x2 .f32) {s e : Fin 8 → Nat → EReal}
    (H : Nms.Holds x0 x1 x2 x3 s e) (q : Fin 8 → Nat → Fin 2 → EReal)
    (h4 : ∀ bb (i : Fin 2048) ch, (x4 : FVec Ideal S8x2048x2 .f32) (ix3 bb i ch) = q bb i ch) :
    (out1_A_5 c arg0 harg0 arg1 harg1 arg2 harg2 arg3 harg3 arg4 harg4 arg5 harg5 arg6 harg6 x0 x1 x2 x3 x4 : FVec Ideal S8x300x2 .f32) = rows s e q := by
  funext y
  obtain ⟨i, t, ch, rfl⟩ : ∃ i t ch, y = ix3 i t ch := ⟨_, _, _, eq_ix3 y⟩
  exact Nms.out_value c arg0 harg0 arg1 harg1 arg2 harg2 arg3 harg3 arg4 harg4 arg5 harg5 arg6 harg6 x0 x1 x2 x3 x4 H q h4 i t ch

/-- What the second launch's body writes. -/
theorem outs1 (c : Dev nD) (t) {s e : Fin 8 → Nat → EReal}
    (H : Nms.Holds (V c main_call0_v21) (V c main_call0_v22) (V c main_call0_v23) (V c main_call0_v24) s e) (q : Fin 8 → Nat → Fin 2 → EReal)
    (h4 : ∀ bb (i : Fin 2048) ch, (V c main_call0_v20 : FVec Ideal S8x2048x2 .f32) (ix3 bb i ch) = q bb i ch) :
    (outsAt1 V c t : FVec Ideal S8x300x2 .f32) = rows s e q := by
  unfold outsAt1
  rw [blk1_0, blk1_1, blk1_2, blk1_3, blk1_4]
  exact rows_of c _ _ _ _ _ _ _ _ _ _ _ _ _ _ _ _ _ _ _ H q h4

/-- The second launch's result array, in terms of its sorted starts and ends. -/
theorem arr1 (c : Dev nD) {s e : Fin 8 → Nat → EReal}
    (H : Nms.Holds (V c main_call0_v21) (V c main_call0_v22) (V c main_call0_v23) (V c main_call0_v24) s e) (q : Fin 8 → Nat → Fin 2 → EReal)
    (h4 : ∀ bb (i : Fin 2048) ch, (V c main_call0_v20 : FVec Ideal S8x2048x2 .f32) (ix3 bb i ch) = q bb i ch) :
    ((dat1 V c).arrAt 5 cfg1.N : FVec Ideal S8x300x2 .f32) = rows s e q := by
  refine (dat1 V c).arrAt_eq_of_covers 5 _ (by decide +kernel) fun t hf y => ?_
  blk_simp
  rw [after1_5]
  exact (congrFun (outs1 V c t H q h4) y).trans (congrArg (rows s e q) (by blk_ext [e1_5]))

end Cert.Ker
-- ==== Proof.KerRun.lean ====
module

public import proofs.«01_k».proof.Proof.KerHost
public import proofs.«01_k».proof.Proof.KerReg

@[expose] public section

set_option maxRecDepth 16384

/-! The kernel's result, as a function of its two arguments, and its run. -/

noncomputable section

namespace Cert.Ker

open Idealize.ShloMosaic Idealize.SL.Sem Cert.KernelIdeal Cert.KernelIdeal.Gen

variable (m : (ℓ : Loc nD τ sig) → Buf (Elt Ideal) ℓ) (ρ : Dev nD → PrngReg)

/-- The first argument. -/
abbrev X (c : Dev nD) : FVec Ideal Spec.A .f32 := m ((c.tc : Thread nD τ).loc main_arg0)
/-- The second argument. -/
abbrev Y (c : Dev nD) : FVec Ideal Spec.A .f32 := m ((c.tc : Thread nD τ).loc main_arg1)

/-- An anchor's place on the time axis is below 512. -/
theorem div_lt (n : Fin 5120) : n.val / 10 % 512 = n.val / 10 := by omega

/-- The first launch's scores are the specification's. -/
theorem v3_eq (c : Dev nD) (b : Fin 8) (n : Fin 5120) : (V1 m ρ c main_call0_v3 : FVec Ideal S8x5120 .f32) (ix2 b n) = Spec.sc (X m c) b n := by
  refine (sc_at (W0 m ρ c) b n).trans ?_
  unfold Spec.sc
  simp only [div_lt n]

/-- The first launch's centre deltas are the specification's. -/
theorem v8_eq (c : Dev nD) (b : Fin 8) (n : Fin 5120) : (V1 m ρ c main_call0_v8 : FVec Ideal S8x5120 .f32) (ix2 b n) = Spec.dx (Y m c) b n := by
  refine (dx_at (W0 m ρ c) b n).trans ?_
  unfold Spec.dx
  simp only [div_lt n]

/-- The first launch's length deltas are the specification's. -/
theorem v10_eq (c : Dev nD) (b : Fin 8) (n : Fin 5120) : (V1 m ρ c main_call0_v10 : FVec Ideal S8x5120 .f32) (ix2 b n) = Spec.dl (Y m c) b n := by
  refine (dl_at (W0 m ρ c) b n).trans ?_
  unfold Spec.dl
  simp only [div_lt n]

/-- The first launch's widths. -/
theorem v11_eq (c : Dev nD) (n : Fin 5120) : (V1 m ρ c main_call0_v11 : FVec Ideal S1x5120 .f32) (ix2 0 n) = Tab.wS n := w_at (W0 m ρ c) n
/-- The first launch's centres. -/
theorem v12_eq (c : Dev nD) (n : Fin 5120) : (V1 m ρ c main_call0_v12 : FVec Ideal S1x5120 .f32) (ix2 0 n) = Tab.cS n := c_at (W0 m ρ c) n

/-- The first launch leaves the clipped starts. -/
theorem ps_eq (c : Dev nD) (b : Fin 8) (n : Fin 5120) :
    (W2 m ρ c (Proc.devRef .tc main_call0_v13_0) : FVec Ideal S8x5120 .f32) (ix2 b n) = Spec.lo (Y m c) b n := by
  refine (congrFun ((W2_arr m ρ c 5).trans (arr0_5 (V1 m ρ) c)) (ix2 b n)).trans ?_
  refine (out_5 _ _ _ _ _ b n).trans ?_
  rw [v8_eq, v10_eq, v11_eq, v12_eq]
  rfl

/-- The first launch leaves the clipped ends. -/
theorem pe_eq (c : Dev nD) (b : Fin 8) (n : Fin 5120) :
    (W2 m ρ c (Proc.devRef .tc main_call0_v13_1) : FVec Ideal S8x5120 .f32) (ix2 b n) = Spec.hi (Y m c) b n := by
  refine (congrFun ((W2_arr m ρ c 6).trans (arr0_6 (V1 m ρ) c)) (ix2 b n)).trans ?_
  refine (out_6 _ _ _ _ _ b n).trans ?_
  rw [v8_eq, v10_eq, v11_eq, v12_eq]
  rfl

/-- The first launch leaves the filtered scores. -/
theorem fs_eq (c : Dev nD) (b : Fin 8) (n : Fin 5120) :
    (W2 m ρ c (Proc.devRef .tc main_call0_v13_2) : FVec Ideal S8x5120 .f32) (ix2 b n) = Spec.fs (X m c) (Y m c) b n := by
  refine (congrFun ((W2_arr m ρ c 7).trans (arr0_7 (V1 m ρ) c)) (ix2 b n)).trans ?_
  refine (out_7 _ _ _ _ _ b n).trans ?_
  rw [v3_eq, v8_eq, v10_eq, v11_eq, v12_eq]
  rfl

/-- The second launch is given the sorted starts and ends. -/
theorem holds (c : Dev nD) : Nms.Holds (V3 m ρ c main_call0_v21) (V3 m ρ c main_call0_v22) (V3 m ρ c main_call0_v23) (V3 m ρ c main_call0_v24)
    (Spec.S (X m c) (Y m c)) (Spec.E (X m c) (Y m c)) where
  h0 b i := s_at (W2 m ρ c) (fs_eq m ρ c) (ps_eq m ρ c) b i
  h1 b i := e_at (W2 m ρ c) (fs_eq m ρ c) (pe_eq m ρ c) b i
  h2 b i := s_row_at (W2 m ρ c) (fs_eq m ρ c) (ps_eq m ρ c) b i
  h3 b i := e_row_at (W2 m ρ c) (fs_eq m ρ c) (pe_eq m ρ c) b i

/-- What the second launch leaves. -/
theorem v25_eq (c : Dev nD) (b : Fin 8) (t : Fin 300) (ch : Fin 2) :
    (W4 m ρ c (Proc.devRef .tc main_call0_v25) : FVec Ideal S8x300x2 .f32) (ix3 b t ch) = Spec.row (X m c) (Y m c) b t ch :=
  congrFun ((W4_arr m ρ c 5).trans (arr1 (V3 m ρ) c (holds m ρ c)
    (fun b i ch => (if ch.val < 1 then Spec.S (X m c) (Y m c) b else Spec.E (X m c) (Y m c) b) i)
    (fun b i ch => q_at (W2 m ρ c) (fs_eq m ρ c) (ps_eq m ρ c) (pe_eq m ρ c) b i ch))) (ix3 b t ch)

/-- The kernel's result buffer at the end. -/
theorem res_eq (c : Dev nD) : (W5 m ρ c (Proc.devRef .tc main_v0) : FVec Ideal S8x300x3 .f32) = Spec.res (X m c) (Y m c) := by
  funext y
  obtain ⟨b, t, ch, rfl⟩ : ∃ b t ch, y = ix3 b t ch := ⟨_, _, _, eq_ix3 y⟩
  refine (out_at (W4 m ρ c) b t ch).trans (Eq.trans ?_ (Spec.res_at (X m c) (Y m c) b t ch).symm)
  by_cases h : ch.val < 1
  · rw [dif_pos h, dif_pos h]
  · rw [dif_neg h, dif_neg h]
    exact v25_eq m ρ c b t _

end Cert.Ker
-- ==== Proof.KerEnd.lean ====
module

public import proofs.«01_k».proof.Proof.KerRun
public import proofs.«01_k».proof.Proof.Gen.KernelIdeal.Frame

@[expose] public section

set_option maxRecDepth 16384

/-! The kernel's run, ending with its result buffer at the values of the common description. -/

noncomputable section

namespace Cert.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every fair execution of the kernel ends with its result buffer at the values of the common description and its
arguments as launched. -/
theorem run : θ_run defs (onTc (τ := τ) (main (F := Ideal))) ⟨m, fun _ => 0, ρ⟩ (fun r => ∀ c : Dev nD,
      r.2.mem ((c.tc : Thread nD τ).loc main_v0) = Spec.res (X m c) (Y m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨(h c _ (mem_uc main_v0 (by decide))).trans (res_eq m ρ c),
       (h c _ (mem_uc main_arg0 (by decide))).trans (W5_main_arg0 m ρ c),
       (h c _ (mem_uc main_arg1 (by decide))).trans (W5_main_arg1 m ρ c)⟩)

end Cert.Ker
-- ==== Proof.RefLoop.lean ====
module

public import proofs.«01_k».proof.Proof.Gen.ReferenceIdeal.Run
public import proofs.«01_k».proof.Proof.Greedy
public import Idealize.ShloMosaic.Lib.DynamicIndex
public import Idealize.ShloMosaic.Lib.WordCmp
public import Idealize.ShloMosaic.Lib.Pointwise

@[expose] public section

set_option maxRecDepth 16384

/-! The reference's suppression loop, trip by trip. -/

noncomputable section

namespace Cert.Ref

open Idealize.ShloMosaic Idealize.SL.Sem Cert.ReferenceIdeal Cert.ReferenceIdeal.Gen Cert.ReferenceIdeal.Value

open Classical in
/-- A proposition as a bit. -/
def bit (P : Prop) : BitVec 1 := BitVec.ofBool (decide P)

/-- The bit of a true proposition is one. -/
theorem bit_true {P : Prop} (h : P) : bit P = 1#1 := by unfold bit; rw [@decide_eq_true P (Classical.propDecidable P) h]; rfl

/-- The bit of a false proposition is zero. -/
theorem bit_false {P : Prop} (h : ¬ P) : bit P = 0#1 := by unfold bit; rw [@decide_eq_false P (Classical.propDecidable P) h]; rfl

/-- Equivalent propositions have the same bit. -/
theorem bit_congr {P Q : Prop} (h : P ↔ Q) : bit P = bit Q := congrArg bit (propext h)

/-- The bit after one suppression. -/
theorem bit_step (P Q R T : Prop) : IntOp.andi (bit P) (~~~IntOp.andi (IntOp.andi (bit Q) (bit R)) (bit T)) = bit (P ∧ ¬ ((Q ∧ R) ∧ T)) := by
  unfold bit
  by_cases hP : P <;> by_cases hQ : Q <;> by_cases hR : R <;> by_cases hT : T <;> simp only [hP, hQ, hR, hT] <;> rfl

/-- A row of the overlaps, read at a trip's number. -/
theorem row3 (x : FVec Ideal S8x2000x2000 .f32) (s : Fin 3 → Int) (k : Fin 2000) (h0 : s 0 = 0) (h1 : s 1 = (k.val : Int)) (h2 : s 2 = 0)
    (b : Fin 8) (n : Fin 2000) : Host.dynamicSlice S8x1x2000 x s sliceFits_S8x2000x2000_S8x1x2000 (ix3 b 0 n) = x (ix3 b k n) := by
  have hs : (S8x2000x2000 : Shape).Slices ![0, k.val, 0] S8x1x2000 := by
    refine ⟨rfl, fun a => ?_⟩
    fin_cases a
    · exact le_refl 8
    · have := k.isLt; show k.val + 1 ≤ 2000; omega
    · exact le_refl 2000
  rw [Host.dynamicSlice_eq_extractStridedSlice S8x1x2000 x s ![0, k.val, 0] _ hs (by intro a; fin_cases a; exacts [h0, h1, h2])]
  refine congrArg x ?_
  funext a
  refine Fin.ext ?_
  fin_cases a
  · show 0 + b.val = b.val; omega
  · show k.val + 0 = k.val; omega
  · show 0 + n.val = n.val; omega

/-- A column of the keep bits, read at a trip's number. -/
theorem col2 (x : IVec S8x2000 1) (s : Fin 2 → Int) (k : Fin 2000) (h0 : s 0 = 0) (h1 : s 1 = (k.val : Int))
    (b : Fin 8) : Host.dynamicSlice S8x1 x s sliceFits_S8x2000_S8x1 (ix2 b 0) = x (ix2 b k) := by
  have hs : (S8x2000 : Shape).Slices ![0, k.val] S8x1 := by
    refine ⟨rfl, fun a => ?_⟩
    fin_cases a
    · exact le_refl 8
    · have := k.isLt; show k.val + 1 ≤ 2000; omega
  rw [Host.dynamicSlice_eq_extractStridedSlice S8x1 x s ![0, k.val] _ hs (by intro a; fin_cases a; exacts [h0, h1])]
  refine congrArg x ?_
  funext a
  refine Fin.ext ?_
  fin_cases a
  · show 0 + b.val = b.val; omega
  · show k.val + 0 = k.val; omega

/-- The trip's arithmetic at one position: the old bit and not the suppression. -/
theorem step_core (K : IVec S8x2000 1) (D1 : FVec Ideal S8x1x2000 .f32) (D2 : IVec S8x1 1) (I : IVec S2000 32) (c3 : IVec S_ 32) (b : Fin 8) (n : Fin 2000) :
    id (andi K (noti (andi (andi (cmpf .ogt (shapeCast S8x2000 D1 shapeCasts_S8x1x2000_S8x2000) (broadcastInDim S8x2000 ![] bcast_S_S8x2000 (constant (F := Ideal) S_ .f32 0x3F333333#32)))
      (broadcastInDim S8x2000 ![0, 1] bcast_S1x2000_S8x2000_0_1 (broadcastInDim S1x2000 ![1] bcast_S2000_S1x2000_1 (cmpi .sgt I (broadcastInDim S2000 ![] bcast_S_S2000 (id c3))))))
      (broadcastInDim S8x2000 ![0, 1] bcast_S8x1_S8x2000_0_1 (broadcastInDim S8x1 ![0] bcast_S8_S8x1_0 (shapeCast S8 D2 shapeCasts_S8x1_S8)))))) (ix2 b n)
      = IntOp.andi (K (ix2 b n)) (~~~IntOp.andi (IntOp.andi (bit (Ideal.ofBits FTy.f32 1060320051#32 < D1 (ix3 b 0 n))) (IntOp.cmpi .sgt (I (ix1 n)) (c3 ix0))) (D2 (ix2 b 0))) := by
  rw [id_eq, id_eq]
  pointwise
  unfold bit
  congr!

/-- A scalar has one position. -/
theorem idx0 (i : S_.Idx) : i = ix0 := funext fun a => a.elim0

/-- One trip on the keep bits. -/
theorem step_at (V : Valuation τ sig (Elt Ideal)) (M : Fin 8 → Nat → Nat → Prop) (P : Fin 8 → Nat → Prop) (k : Fin 2000)
    (hq : ∀ b (i j : Fin 2000), Ideal.ofBits FTy.f32 1060320051#32 < (V (Proc.devRef .tc main_v91_0) : FVec Ideal S8x2000x2000 .f32) (ix3 b i j) ↔ M b i j)
    (h1 : ∀ n : Fin 2000, (V (Proc.devRef .tc main_v91_1) : IVec S2000 32) (ix1 n) = BitVec.ofNat 32 n.val)
    (h3 : (V (Proc.devRef .tc main_v91_3) : IVec S_ 32) = fun _ => BitVec.ofNat 32 k.val)
    (h4 : ∀ b (j : Fin 2000), (V (Proc.devRef .tc main_v91_4) : IVec S8x2000 1) (ix2 b j) = bit (P b j)) (b : Fin 8) (n : Fin 2000) :
    (step_main_v91_4 V : IVec S8x2000 1) (ix2 b n) = bit (P b n ∧ ¬ ((M b k n ∧ k.val < n.val) ∧ P b k)) := by
  have hw : ∀ i : S_.Idx, (select (cmpi .slt (res_main_while0b_v112 V) (constantI S_ 32 0#32)) (addi (res_main_while0b_v112 V) (constantI S_ 32 2000#32)) (res_main_while0b_v112 V) i).toInt = (k.val : Int) := by
    intro i
    have e : res_main_while0b_v112 V = constantI S_ 32 (BitVec.ofNat 32 k.val) := h3
    rw [e]
    exact toInt_wrap_ofNat k.val (by omega)
  have hw' : ∀ i : S_.Idx, (select (cmpi .slt (res_main_while0b_v132 V) (constantI S_ 32 0#32)) (addi (res_main_while0b_v132 V) (constantI S_ 32 2000#32)) (res_main_while0b_v132 V) i).toInt = (k.val : Int) := by
    intro i
    have e : res_main_while0b_v132 V = constantI S_ 32 (BitVec.ofNat 32 k.val) := h3
    rw [e]
    exact toInt_wrap_ofNat k.val (by omega)
  unfold step_main_v91_4
  refine (step_core _ _ _ _ _ b n).trans ?_
  rw [row3 _ _ k ?_ ?_ ?_ b n, col2 _ _ k ?_ ?_ b]
  rotate_left
  · exact toInt_wrap_ofNat (s := S_) 0 (by omega) (d := addi (constantI S_ 32 0#32) (constantI S_ 32 8#32)) (i := Shape.Idx.first h_S_)
  · exact hw' _
  · exact toInt_wrap_ofNat (s := S_) 0 (by omega) (d := addi (constantI S_ 32 0#32) (constantI S_ 32 2000#32)) (i := Shape.Idx.first h_S_)
  · exact hw _
  · exact toInt_wrap_ofNat (s := S_) 0 (by omega) (d := addi (constantI S_ 32 0#32) (constantI S_ 32 2000#32)) (i := Shape.Idx.first h_S_)
  rw [h4, h4, h3, h1, WordCmp.cmpi_sgt_ofNat (by omega) (by omega), bit_congr (hq b k n), ← bit_step]
  unfold bit
  congr!

section loop

variable (V0 : Valuation τ sig (Elt Ideal)) (M : Fin 8 → Nat → Nat → Prop)
  (hq : ∀ b (i j : Fin 2000), Ideal.ofBits FTy.f32 1060320051#32 < (V0 (Proc.devRef .tc main_v91_0) : FVec Ideal S8x2000x2000 .f32) (ix3 b i j) ↔ M b i j)
  (h1 : ∀ n : Fin 2000, (V0 (Proc.devRef .tc main_v91_1) : IVec S2000 32) (ix1 n) = BitVec.ofNat 32 n.val)
  (h3 : (V0 (Proc.devRef .tc main_v91_3) : IVec S_ 32) = fun _ => BitVec.ofNat 32 0)
  (h4 : ∀ b (j : Fin 2000), (V0 (Proc.devRef .tc main_v91_4) : IVec S8x2000 1) (ix2 b j) = 1#1)

/-- The trips leave the overlaps alone. -/
theorem iter0 (k : Nat) : (STEP^[k] V0) (Proc.devRef .tc main_v91_0) = V0 (Proc.devRef .tc main_v91_0) := by
  induction k with
  | zero => rfl
  | succ k ih => rw [Function.iterate_succ_apply', STEP_main_v91_0, ih]

/-- The trips leave the table of positions alone. -/
theorem iter1 (k : Nat) : (STEP^[k] V0) (Proc.devRef .tc main_v91_1) = V0 (Proc.devRef .tc main_v91_1) := by
  induction k with
  | zero => rfl
  | succ k ih => rw [Function.iterate_succ_apply', STEP_main_v91_1, ih]

include h3 in
/-- After `k` trips the counter is `k`. -/
theorem iter3 (k : Nat) : ((STEP^[k] V0) (Proc.devRef .tc main_v91_3) : IVec S_ 32) = fun _ => BitVec.ofNat 32 k := by
  induction k with
  | zero => exact h3
  | succ k ih =>
    rw [Function.iterate_succ_apply', STEP_main_v91_3]
    unfold step_main_v91_3
    rw [ih]
    funext i
    show BitVec.ofNat 32 k + 1#32 = _
    rw [BitVec.ofNat_add]

include hq h1 h3 h4

/-- The keep bits after `k` trips. -/
theorem iter4 (k : Nat) (hk : k ≤ 2000) (b : Fin 8) (j : Fin 2000) :
    ((STEP^[k] V0) (Proc.devRef .tc main_v91_4) : IVec S8x2000 1) (ix2 b j) = bit (Nms.St (M b) 2000 k j) := by
  induction k generalizing b j with
  | zero =>
    rw [Function.iterate_zero, id_eq, h4]
    exact (bit_true ⟨j.isLt, fun i hi => absurd hi (by omega)⟩).symm
  | succ k ih =>
    rw [Function.iterate_succ_apply', STEP_main_v91_4, step_at (STEP^[k] V0) M (fun b j => Nms.St (M b) 2000 k j) ⟨k, by omega⟩ ?_ ?_ (iter3 V0 h3 k) (ih (by omega)) b j]
    · refine bit_congr ?_
      rw [Nms.St_succ, Nms.St_of_le (n := k) (j := k) (le_refl _)]
    · rw [iter0]; exact hq
    · rw [iter1]; exact h1

/-- The keep bits after the loop. -/
theorem kept_at (b : Fin 8) (j : Fin 2000) :
    ((STEP^[2000] V0) (Proc.devRef .tc main_v91_4) : IVec S8x2000 1) (ix2 b j) = bit (Nms.Kp (M b) 2000 j) := by
  rw [iter4 V0 M hq h1 h3 h4 2000 (le_refl _)]
  exact bit_congr (Nms.St_of_le (le_of_lt j.isLt))

end loop

end Cert.Ref
-- ==== Proof.RefHost.lean ====
module

public import proofs.«01_k».proof.Proof.Gen.ReferenceIdeal.Run
public import proofs.«01_k».proof.Proof.Tab
public import proofs.«01_k».proof.Proof.Sort
public import proofs.«01_k».proof.Proof.Spec
public import Idealize.ShloMosaic.Lib.StableHlo.ReadAt
public import Idealize.ShloMosaic.Lib.Pointwise

@[expose] public section

set_option maxRecDepth 16384

/-! What the reference's host operations before its loop leave, at an index. -/

noncomputable section

namespace Cert.Ref

open Idealize.ShloMosaic Idealize.SL.Sem Cert.ReferenceIdeal Cert.ReferenceIdeal.Gen

variable (V : Valuation τ sig (Elt Ideal))

/-- The word of an anchor's start. -/
theorem lit_lo (n : Nat) : Ideal.ofBits FTy.f32 (lit0 (S10x2.rowMajor (ix2 ⟨n % 10, by omega⟩ 0))) = ((4 - (Tab.wN (n % 10) : ℝ) / 2 : ℝ) : EReal) := by
  rw [← Tab.ref_lo ⟨n % 10, by omega⟩]
  refine congrArg (fun k => Ideal.ofBits FTy.f32 (lit0 k)) (Fin.ext ?_)
  rw [rowMajor_val2 _ 2 rfl]
  show n % 10 * 2 + 0 = 2 * (n % 10)
  omega

/-- The word of an anchor's end. -/
theorem lit_hi (n : Nat) : Ideal.ofBits FTy.f32 (lit0 (S10x2.rowMajor (ix2 ⟨n % 10, by omega⟩ 1))) = ((3 + (Tab.wN (n % 10) : ℝ) / 2 : ℝ) : EReal) := by
  rw [← Tab.ref_hi ⟨n % 10, by omega⟩]
  refine congrArg (fun k => Ideal.ofBits FTy.f32 (lit0 k)) (Fin.ext ?_)
  rw [rowMajor_val2 _ 2 rfl]
  show n % 10 * 2 + 1 = 2 * (n % 10) + 1
  omega

/-- The scores the reference takes. -/
theorem sc_at (b : Fin 8) (n : Fin 5120) :
    (StableHlo.after hostOps0 V (Proc.devRef .tc main_v13) : FVec Ideal S8x5120 .f32) (ix2 b n)
      = Spec.sc (V (Proc.devRef .tc main_arg0)) b n := by
  after_reads_at
  unfold Spec.sc
  simp only [Nat.mod_eq_of_lt (show n.val / 10 < 512 by omega)]

/-- A width is that of the anchor's scale. -/
theorem wS_eq (n : Nat) : Tab.wS n = ((Tab.wN (n % 10) : ℝ) : EReal) := by
  rfl

/-- The reference's width and centre of an anchor. -/
theorem anchor (n : Fin 5120) :
    Ideal.ofBits FTy.f32 (lit0 (S10x2.rowMajor (ix2 ⟨n.val % 10, by omega⟩ 1))) + FloatOps.sitofp (F := Ideal) FTy.f32 (BitVec.ofNat 32 (n.val / 10)) * Ideal.ofBits FTy.f32 1090519040#32
        - (Ideal.ofBits FTy.f32 (lit0 (S10x2.rowMajor (ix2 ⟨n.val % 10, by omega⟩ 0))) + FloatOps.sitofp (F := Ideal) FTy.f32 (BitVec.ofNat 32 (n.val / 10)) * Ideal.ofBits FTy.f32 1090519040#32) + 1
      = Tab.wS n.val
    ∧ Ideal.ofBits FTy.f32 (lit0 (S10x2.rowMajor (ix2 ⟨n.val % 10, by omega⟩ 0))) + FloatOps.sitofp (F := Ideal) FTy.f32 (BitVec.ofNat 32 (n.val / 10)) * Ideal.ofBits FTy.f32 1090519040#32
        + Ideal.ofBits FTy.f32 1056964608#32 * Tab.wS n.val = Tab.cS n.val := by
  rw [lit_lo, lit_hi, Nms.sitofp_ofNat _ (by omega), Tab.ofBits_eight, Tab.ofBits_half, wS_eq]
  have h1 := Tab.ref_width (n.val / 10) ⟨n.val % 10, by omega⟩
  have h2 := Tab.ref_centre (n.val / 10) ⟨n.val % 10, by omega⟩
  exact ⟨by exact h1, by unfold Tab.cS; exact h2⟩

/-- The predicted start, once the anchor's width and centre are named. -/
theorem pred_lo (d e H L M h W C : EReal) (hw : H + M - (L + M) + 1 = W) (hc : L + M + h * W = C) :
    d * (H + M - (L + M) + 1) + (L + M + h * (H + M - (L + M) + 1)) - h * (Ideal.exp e * (H + M - (L + M) + 1)) = d * W + C - h * (Ideal.exp e * W) := by
  subst hc; subst hw; rfl

/-- The predicted end, once the anchor's width and centre are named. -/
theorem pred_hi (d e H L M h W C : EReal) (hw : H + M - (L + M) + 1 = W) (hc : L + M + h * W = C) :
    d * (H + M - (L + M) + 1) + (L + M + h * (H + M - (L + M) + 1)) + h * (Ideal.exp e * (H + M - (L + M) + 1)) = d * W + C + h * (Ideal.exp e * W) := by
  subst hc; subst hw; rfl

/-- The predicted starts and ends before the clipping. -/
theorem v44_at (b : Fin 8) (n : Fin 5120) (ch : Fin 2) :
    (StableHlo.after hostOps0 V (Proc.devRef .tc main_v44) : FVec Ideal S8x5120x2 .f32) (ix3 b n ch)
      = if ch.val < 1 then Spec.ctr (V (Proc.devRef .tc main_arg1)) b n - Spec.half (V (Proc.devRef .tc main_arg1)) b n
        else Spec.ctr (V (Proc.devRef .tc main_arg1)) b n + Spec.half (V (Proc.devRef .tc main_arg1)) b n := by
  unfold Spec.ctr Spec.half Spec.dx Spec.dl
  simp only [Nat.mod_eq_of_lt (show n.val / 10 < 512 by omega)]
  after_reads_at
  split
  · exact pred_lo _ _ _ _ _ _ _ _ (anchor n).1 (anchor n).2
  · exact pred_hi _ _ _ _ _ _ _ _ (anchor n).1 (anchor n).2

/-- The clipping between the two bounds. -/
theorem clip_at (lo hi : EReal) (hlo : (V (Proc.devRef .tc main_cst_5) : FVec Ideal S_ .f32) ix0 = lo) (hhi : (V (Proc.devRef .tc main_cst_6) : FVec Ideal S_ .f32) ix0 = hi)
    (b : Fin 8) (n : Fin 5120) (ch : Fin 2) :
    (StableHlo.after hostOps0_1 V (Proc.devRef .tc main_v45) : FVec Ideal S8x5120x2 .f32) (ix3 b n ch)
      = min hi (max lo ((V (Proc.devRef .tc main_v44) : FVec Ideal S8x5120x2 .f32) (ix3 b n ch))) := by
  after_reads_at
  rw [id_eq, id_eq, hlo, hhi]

/-- The lower bound is zero. -/
theorem cst5_at : (StableHlo.after hostOps0 V (Proc.devRef .tc main_cst_5) : FVec Ideal S_ .f32) ix0 = (0 : EReal) := by
  after_reads_at

/-- The upper bound is the word of 4095. -/
theorem cst6_at : (StableHlo.after hostOps0 V (Proc.devRef .tc main_cst_6) : FVec Ideal S_ .f32) ix0 = Ideal.ofBits FTy.f32 0x457FF000#32 := by
  after_reads_at

/-- The clipped starts and ends. -/
theorem v45_at (b : Fin 8) (n : Fin 5120) (ch : Fin 2) :
    (StableHlo.after hostOps0_1 (StableHlo.after hostOps0 V) (Proc.devRef .tc main_v45) : FVec Ideal S8x5120x2 .f32) (ix3 b n ch)
      = if ch.val < 1 then Spec.lo (V (Proc.devRef .tc main_arg1)) b n else Spec.hi (V (Proc.devRef .tc main_arg1)) b n := by
  rw [clip_at _ _ _ (cst5_at V) (cst6_at V), v44_at]
  unfold Spec.lo Spec.hi Spec.clip
  split <;> rfl

section Sorted

attribute [local irreducible] Nms.ordS

variable {s p e : Fin 8 → Nat → EReal}
  (hs : ∀ b (n : Fin 5120), (V (Proc.devRef .tc main_v13) : FVec Ideal S8x5120 .f32) (ix2 b n) = s b n)
  (hp : ∀ b (n : Fin 5120) (ch : Fin 2), (V (Proc.devRef .tc main_v45) : FVec Ideal S8x5120x2 .f32) (ix3 b n ch) = if ch.val < 1 then p b n else e b n)

include hs hp in
open Classical in
/-- The negated scores, those of short intervals being zero. -/
theorem v56_at (b : Fin 8) (n : Fin 5120) :
    (StableHlo.after hostOps0_4 (StableHlo.after hostOps0_3 (StableHlo.after hostOps0_2 V)) (Proc.devRef .tc main_v56) : FVec Ideal S8x5120 .f32) (ix2 b n)
      = - if e b n - p b n + 1 < Ideal.ofBits FTy.f32 0x41000000#32 then 0 else s b n := by
  after_reads_at
  rw [hs, hp, hp, id_eq]
  have h0 : (constant (F := Ideal) S_ FTy.f32 0#32) ix0 = (0 : EReal) := by pointwise
  rw [h0, if_pos (show (0 : Fin 2).val < 1 by decide), if_neg (show ¬ (1 : Fin 2).val < 1 by decide)]

/-- The sort of the negated scores gives the order of the scores. -/
theorem v57_at (f : Nat → EReal) (b : Fin 8) (hf : ∀ n : Fin 5120, (V (Proc.devRef .tc main_v56) : FVec Ideal S8x5120 .f32) (ix2 b n) = - f n) (t : Fin 5120) :
    (StableHlo.after hostOps0_5 V (Proc.devRef .tc main_v57) : IVec S8x5120 32) (ix2 b t) = BitVec.ofNat 32 (Nms.ordS 5120 f t).val := by
  refine Eq.trans ?_ (Nms.argsort_at _ f b hf t)
  after_results
  rfl

include hp in
/-- The starts and ends taken in that order. -/
theorem v60_at (f : Nat → EReal) (b : Fin 8)
    (hf : ∀ t : Fin 5120, (V (Proc.devRef .tc main_v57) : IVec S8x5120 32) (ix2 b t) = BitVec.ofNat 32 (Nms.ordS 5120 f t).val)
    (n : Fin 2000) (ch : Fin 2) :
    (StableHlo.after hostOps0_7 (StableHlo.after hostOps0_6 V) (Proc.devRef .tc main_v60) : FVec Ideal S8x2000x2 .f32) (ix3 b n ch)
      = if ch.val < 1 then p b (Nms.ordS 5120 f ⟨n.val, by omega⟩) else e b (Nms.ordS 5120 f ⟨n.val, by omega⟩) := by
  after_reads_at
  have key := fun W a z hi => Nms.take3 (k := (Nms.ordS 5120 f ⟨n.val, by omega⟩).val) gather_S8x5120x2_S8x2000x1_S8x2000x2_2_1_0_0_1_2_112 _ rfl (V (Proc.devRef .tc main_v45)) W b n ch _ a z hi (hf ⟨n.val, by omega⟩) (Fin.isLt _) (by omega)
  rw [hp b (Nms.ordS 5120 f ⟨n.val, by omega⟩) ch] at key
  convert key _ (IntOp.addi ((V (Proc.devRef .tc main_v57) : IVec S8x5120 32) (ix2 b ⟨n.val, by omega⟩)) 5120#32) _ _ rfl ?_ using 2
  pointwise

end Sorted

/-- The quotient of two arrays, entry by entry. -/
theorem divf_at {S : Shape} (x y : FVec Ideal S .f32) (i : S.Idx) : Host.divf x y i = Ideal.div (x i) (y i) := rfl

section Overlap

variable {s e : Fin 8 → Nat → EReal}
  (hp : ∀ b (n : Fin 2000) (ch : Fin 2), (V (Proc.devRef .tc main_v60) : FVec Ideal S8x2000x2 .f32) (ix3 b n ch) = (if ch.val < 1 then s b else e b) n)

include hp in
/-- The overlap exceeds the threshold exactly where `Nms.ovl` says. -/
theorem iou_at (b : Fin 8) (i j : Fin 2000) :
    Ideal.ofBits FTy.f32 1060320051#32 < (StableHlo.after hostOps0_10 (StableHlo.after hostOps0_9 (StableHlo.after hostOps0_8 V)) (Proc.devRef .tc main_v91_0) : FVec Ideal S8x2000x2000 .f32) (ix3 b i j)
      ↔ Nms.ovl (s b) (e b) i j := by
  after_reads_at
  simp only [id_eq]
  pointwise [divf_at]
  simp only [hp, Fin.val_zero, Fin.val_one, Nat.zero_lt_one, if_true, Nat.lt_irrefl, if_false]
  rfl

/-- The loop's table of positions. -/
theorem iota_at (n : Fin 2000) :
    (StableHlo.after hostOps0_10 (StableHlo.after hostOps0_9 (StableHlo.after hostOps0_8 V)) (Proc.devRef .tc main_v91_1) : IVec S2000 32) (ix1 n) = BitVec.ofNat 32 n.val := by
  after_reads_at
  rfl

/-- The loop counts from zero. -/
theorem zero_at :
    (StableHlo.after hostOps0_10 (StableHlo.after hostOps0_9 (StableHlo.after hostOps0_8 V)) (Proc.devRef .tc main_v91_3) : IVec S_ 32) = fun _ => BitVec.ofNat 32 0 := by
  funext i
  obtain rfl : i = ix0 := funext fun a => a.elim0
  after_reads_at
  rfl

/-- Every position is kept before the loop. -/
theorem ones_at (b : Fin 8) (n : Fin 2000) :
    (StableHlo.after hostOps0_10 (StableHlo.after hostOps0_9 (StableHlo.after hostOps0_8 V)) (Proc.devRef .tc main_v91_4) : IVec S8x2000 1) (ix2 b n) = 1#1 := by
  after_reads_at
  rfl

end Overlap

end Cert.Ref
-- ==== Proof.RefPost.lean ====
module

public import proofs.«01_k».proof.Proof.RefLoop
public import proofs.«01_k».proof.Proof.RefHost

@[expose] public section

set_option maxRecDepth 16384

/-! What the reference's host operations after its loop leave, at an index. -/

noncomputable section

namespace Cert.Ref

open Idealize.ShloMosaic Idealize.SL.Sem Cert.ReferenceIdeal Cert.ReferenceIdeal.Gen

variable (V : Valuation τ sig (Elt Ideal))

/-- A sum of bits is their count. -/
theorem fold_bits (Q : Nat → Prop) [DecidablePred Q] (n : Nat) :
    Finset.fold IntOp.addi 0#32 (fun x : Fin n => BitVec.setWidth 32 (bit (Q x))) Finset.univ = BitVec.ofNat 32 (Nat.count Q n) := by
  induction n with
  | zero => rfl
  | succ n ih =>
    rw [Fin.univ_castSuccEmb, Finset.fold_cons, Finset.fold_map, Nat.count_succ]
    show IntOp.addi _ (Finset.fold IntOp.addi 0#32 (fun x : Fin n => BitVec.setWidth 32 (bit (Q x))) Finset.univ) = _
    rw [ih]
    show BitVec.setWidth 32 (bit (Q n)) + BitVec.ofNat 32 (Nat.count Q n) = _
    unfold bit
    by_cases h : Q n
    · simp only [h, decide_true, if_true]
      rw [BitVec.ofNat_add, BitVec.add_comm]; rfl
    · simp only [h, decide_false, if_false]
      rw [Nat.add_zero]
      exact BitVec.zero_add _

section Kept

variable {P : Fin 8 → Nat → Prop}
  (hk : ∀ b (n : Fin 2000), (V (Proc.devRef .tc main_v91_4) : IVec S8x2000 1) (ix2 b n) = bit (P b n))
include hk

open Classical in
/-- A row is valid while its number is below the number of kept positions. -/
theorem v102_at (b : Fin 8) (t : Fin 300) :
    (StableHlo.after hostOps0_13 (StableHlo.after hostOps0_12 (StableHlo.after hostOps0_11 V)) (Proc.devRef .tc main_v102) : IVec S8x300 1) (ix2 b t)
      = bit (t.val < Nat.count (P b) 2000) := by
  after_reads_at
  simp only [hk]
  rw [fold_bits, WordCmp.cmpi_slt_ofNat (by omega) (by have := Nat.count_le (p := P b) (n := 2000); omega)]
  unfold bit
  congr!

open Classical in
/-- The stable sort of the dropped flags lists the kept positions in order. -/
theorem v95_at (b : Fin 8) (t : Fin 2000) (ht : t.val < ((List.range 2000).filter fun n => decide (P b n)).length) :
    (StableHlo.after hostOps0_12 (StableHlo.after hostOps0_11 V) (Proc.devRef .tc main_v95) : IVec S8x2000 32) (ix2 b t)
      = BitVec.ofNat 32 (((List.range 2000).filter fun n => decide (P b n)).getD t 0) := by
  have hn : ∀ n : Fin 2000, (StableHlo.after hostOps0_11 V (Proc.devRef .tc main_v94) : IVec S8x2000 1) (ix2 b n) = if decide (P b n) then 0#1 else 1#1 := by
    intro n
    after_reads_at
    rw [hk]
    unfold bit
    by_cases h : P b n <;> simp [h]
  refine Eq.trans ?_ (Nms.flagsort_at _ _ b hn t ht)
  generalize StableHlo.after hostOps0_11 V = W
  after_results
  rfl

end Kept

/-- The pair taken at a listed position. -/
theorem v104_at (b : Fin 8) (t : Fin 300) (ch : Fin 2) (k : Fin 2000)
    (hw : (V (Proc.devRef .tc main_v95) : IVec S8x2000 32) (ix2 b ⟨t.val, by omega⟩) = BitVec.ofNat 32 k.val) (z : EReal)
    (hz : (V (Proc.devRef .tc main_v60) : FVec Ideal S8x2000x2 .f32) (ix3 b k ch) = z) :
    (StableHlo.after hostOps0_14 (StableHlo.after hostOps0_13 V) (Proc.devRef .tc main_v104) : FVec Ideal S8x300x2 .f32) (ix3 b t ch) = z := by
  after_reads_at
  have key := fun W a z hi => Nms.take3 (k := k.val) gather_S8x2000x2_S8x300x1_S8x300x2_2_1_0_0_1_2_112 _ rfl (V (Proc.devRef .tc main_v60)) W b t ch _ a z hi hw (Fin.isLt _) (by omega)
  rw [← hz]
  convert key _ (IntOp.addi ((V (Proc.devRef .tc main_v95) : IVec S8x2000 32) (ix2 b ⟨t.val, by omega⟩)) 2000#32) _ _ rfl ?_ using 2
  pointwise

/-- An invalid row is zero. -/
theorem v106_at (b : Fin 8) (t : Fin 300) (ch : Fin 2) :
    (StableHlo.after hostOps0_16 (StableHlo.after hostOps0_15 V) (Proc.devRef .tc main_v106) : FVec Ideal S8x300x2 .f32) (ix3 b t ch)
      = Scalar.select ((V (Proc.devRef .tc main_v102) : IVec S8x300 1) (ix2 b t)) ((V (Proc.devRef .tc main_v104) : FVec Ideal S8x300x2 .f32) (ix3 b t ch)) (0 : EReal) := by
  after_reads_at
  rw [id_eq]
  exact congrArg _ (show (constant (F := Ideal) S_ FTy.f32 0#32) ix0 = (0 : EReal) by pointwise)

/-- The reference's result: the batch's number, then the kept pairs. -/
theorem out_at (b : Fin 8) (t : Fin 300) (ch : Fin 3) :
    (StableHlo.after hostOps0_17 V (Proc.devRef .tc main_v110) : FVec Ideal S8x300x3 .f32) (ix3 b t ch)
      = if h : ch.val < 1 then FloatOps.sitofp (F := Ideal) FTy.f32 (BitVec.ofNat 32 b.val)
        else (V (Proc.devRef .tc main_v106) : FVec Ideal S8x300x2 .f32) (ix3 b t ⟨ch.val - 1, by omega⟩) := by
  after_reads_at

end Cert.Ref
-- ==== Proof.RefFrame.lean ====
/- The reference's run: what its loop leaves alone, and its frame with the counters. -/
module

public import proofs.«01_k».proof.Proof.Gen.ReferenceIdeal.Run
public import Idealize.ShloMosaic.Lib.Quiescent

@[expose] public section

set_option maxRecDepth 16384

noncomputable section

namespace Cert.ReferenceIdeal.Value

open Idealize.ShloMosaic Idealize.ShloMosaic.TcCoe Idealize.ShloMosaic.StableHlo
open Idealize.SL Idealize.SL.RA Idealize.SL.BI Idealize.SL.Sem
open Cert.ReferenceIdeal.Gen

variable {F : FTy → Type} [FloatOps F]

/-- A buffer written neither by the loop's condition nor by its body holds at every trip what it held at the entry. -/
theorem atK_keep (m : (ℓ : Loc nD τ sig) → Buf (Elt F) ℓ) (c : Dev nD) (r : Ref sig .tc) (hc : r ∉ condOps_W) (hb : r ∉ while0Ops0_W) :
    ∀ k, atK m k c (Proc.devRef .tc r) = entryContents preI m c (Proc.devRef .tc r)
  | 0 => rfl
  | k + 1 => by
    rw [show atK m (k + 1) c = after while0Ops0 (after condOps (atK m k c)) from rfl,
      after_of_writes_sub while0Ops0 _ while0Ops0_writes hb, after_of_writes_sub condOps _ condOps_writes hc,
      atK_keep m c r hc hb k]

/-- The first argument is as at the launch when everything has run. -/
theorem final_arg0 (m : (ℓ : Loc nD τ sig) → Buf (Elt F) ℓ) (c : Dev nD) :
    finalContents condOps preI bodyI postI 2000 m c (Proc.devRef .tc main_arg0) = m ((c.tc : Thread nD τ).loc main_arg0) := by
  have hpost : ∀ X : Valuation τ sig (Elt F), afterL postI X (Proc.devRef .tc main_arg0) = X (Proc.devRef .tc main_arg0) := fun X => by
    simp only [postI, afterL_cons, afterL_nil]
    after_reads_simp
  have hpre : entryContents preI m c (Proc.devRef .tc main_arg0) = m ((c.tc : Thread nD τ).loc main_arg0) := by
    simp only [entryContents, preI, afterL_cons, afterL_nil]
    after_reads_simp
  refine (hpost _).trans ?_
  rw [after_of_writes_sub condOps _ condOps_writes (by decide)]
  exact (atK_keep m c main_arg0 (by decide) (by decide) 2000).trans hpre

/-- The second argument is as at the launch when everything has run. -/
theorem final_arg1 (m : (ℓ : Loc nD τ sig) → Buf (Elt F) ℓ) (c : Dev nD) :
    finalContents condOps preI bodyI postI 2000 m c (Proc.devRef .tc main_arg1) = m ((c.tc : Thread nD τ).loc main_arg1) := by
  have hpost : ∀ X : Valuation τ sig (Elt F), afterL postI X (Proc.devRef .tc main_arg1) = X (Proc.devRef .tc main_arg1) := fun X => by
    simp only [postI, afterL_cons, afterL_nil]
    after_reads_simp
  have hpre : entryContents preI m c (Proc.devRef .tc main_arg1) = m ((c.tc : Thread nD τ).loc main_arg1) := by
    simp only [entryContents, preI, afterL_cons, afterL_nil]
    after_reads_simp
  refine (hpost _).trans ?_
  rw [after_of_writes_sub condOps _ condOps_writes (by decide)]
  exact (atK_keep m c main_arg1 (by decide) (by decide) 2000).trans hpre

/-- The reference runs, leaves its arguments unchanged and has every counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c main_arg0 (by decide)).trans (final_arg0 m c),
    (h c main_arg1 (by decide)).trans (final_arg1 m c)⟩, sem_eq_zero_of_no_sems (by decide) _⟩) (run_fold m ρ)

end Cert.ReferenceIdeal.Value

end
-- ==== Proof.RefEnd.lean ====
module

public import proofs.«01_k».proof.Proof.RefPost
public import proofs.«01_k».proof.Proof.RefFrame

@[expose] public section

set_option maxRecDepth 16384

/-! The reference's result as the values both programs compute. -/

noncomputable section

namespace Cert.Ref

open Idealize.ShloMosaic Idealize.SL.Sem Cert.ReferenceIdeal Cert.ReferenceIdeal.Gen Cert.ReferenceIdeal.Value
open StableHlo (after after_of_writes_sub afterL_cons afterL_nil entryContents finalContents)

section Pre

variable (V : Valuation τ sig (Elt Ideal))

/-- The first argument. -/
abbrev aX : FVec Ideal Spec.A .f32 := V (Proc.devRef .tc main_arg0)

/-- The second argument. -/
abbrev aY : FVec Ideal Spec.A .f32 := V (Proc.devRef .tc main_arg1)

/-- The clipped ends and scores of the candidates. -/
abbrev V1 : Valuation τ sig (Elt Ideal) := after hostOps0_1 (after hostOps0 V)

/-- The order of the candidates. -/
abbrev V5 : Valuation τ sig (Elt Ideal) := after hostOps0_5 (after hostOps0_4 (after hostOps0_3 (after hostOps0_2 (V1 V))))

/-- The sorted ends. -/
abbrev V7 : Valuation τ sig (Elt Ideal) := after hostOps0_7 (after hostOps0_6 (V5 V))

/-- The loop's entry. -/
abbrev V10 : Valuation τ sig (Elt Ideal) := after hostOps0_10 (after hostOps0_9 (after hostOps0_8 (V7 V)))

/-- The reference sorts the negated filtered scores. -/
theorem neg_score (b : Fin 8) (n : Fin 5120) :
    (after hostOps0_4 (after hostOps0_3 (after hostOps0_2 (V1 V))) (Proc.devRef .tc main_v56) : FVec Ideal S8x5120 .f32) (ix2 b n)
      = (- Spec.fs (aX V) (aY V) b n : EReal) := by
  refine (v56_at (V1 V) (s := fun b n => Spec.sc (aX V) b n) (p := fun b n => Spec.lo (aY V) b n) (e := fun b n => Spec.hi (aY V) b n) ?_ (v45_at V) b n).trans rfl
  intro b n
  unfold V1
  rw [after_of_writes_sub hostOps0_1 _ hostOps0_1_writes (by decide)]
  exact sc_at V b n

/-- The order is that of the filtered scores. -/
theorem order_at (b : Fin 8) (t : Fin 5120) :
    (V5 V (Proc.devRef .tc main_v57) : IVec S8x5120 32) (ix2 b t) = BitVec.ofNat 32 (Nms.ordS 5120 (Spec.fs (aX V) (aY V) b) t).val :=
  v57_at _ (Spec.fs (aX V) (aY V) b) b (neg_score V b) t

/-- The sorted pairs are the specification's. -/
theorem sorted_at (b : Fin 8) (n : Fin 2000) (ch : Fin 2) :
    (V7 V (Proc.devRef .tc main_v60) : FVec Ideal S8x2000x2 .f32) (ix3 b n ch) = (if ch.val < 1 then Spec.S (aX V) (aY V) b else Spec.E (aX V) (aY V) b) n := by
  refine (v60_at (V5 V) (p := fun b n => Spec.lo (aY V) b n) (e := fun b n => Spec.hi (aY V) b n) ?_ (Spec.fs (aX V) (aY V) b) b (order_at V b) n ch).trans ?_
  · intro b n ch
    unfold V5 V1
    rw [after_of_writes_sub hostOps0_5 _ hostOps0_5_writes (by decide), after_of_writes_sub hostOps0_4 _ hostOps0_4_writes (by decide),
      after_of_writes_sub hostOps0_3 _ hostOps0_3_writes (by decide), after_of_writes_sub hostOps0_2 _ hostOps0_2_writes (by decide)]
    exact v45_at V b n ch
  · unfold Spec.S Spec.E Spec.srt
    split
    · beta_reduce
      rw [dif_pos n.isLt]
    · beta_reduce
      rw [dif_pos n.isLt]

/-- The loop's entry still has the sorted pairs. -/
theorem entry_sorted (b : Fin 8) (n : Fin 2000) (ch : Fin 2) :
    (V10 V (Proc.devRef .tc main_v60) : FVec Ideal S8x2000x2 .f32) (ix3 b n ch) = (if ch.val < 1 then Spec.S (aX V) (aY V) b else Spec.E (aX V) (aY V) b) n := by
  unfold V10
  rw [after_of_writes_sub hostOps0_10 _ hostOps0_10_writes (by decide), after_of_writes_sub hostOps0_9 _ hostOps0_9_writes (by decide),
    after_of_writes_sub hostOps0_8 _ hostOps0_8_writes (by decide)]
  exact sorted_at V b n ch

/-- The keep bits after the loop. -/
theorem loop_at (b : Fin 8) (j : Fin 2000) :
    ((STEP^[2000] (V10 V)) (Proc.devRef .tc main_v91_4) : IVec S8x2000 1) (ix2 b j) = bit (Nms.Kp (Nms.ovl (Spec.S (aX V) (aY V) b) (Spec.E (aX V) (aY V) b)) 2000 j) :=
  kept_at (V10 V) (fun b => Nms.ovl (Spec.S (aX V) (aY V) b) (Spec.E (aX V) (aY V) b)) (fun b i j => iou_at (V7 V) (sorted_at V) b i j) (iota_at (V7 V)) (zero_at (V7 V)) (ones_at (V7 V)) b j

end Pre

section Post

variable (W : Valuation τ sig (Elt Ideal)) (M : Fin 8 → Nat → Nat → Prop) (s e : Fin 8 → Nat → EReal)
  (hk : ∀ b (n : Fin 2000), (W (Proc.devRef .tc main_v91_4) : IVec S8x2000 1) (ix2 b n) = bit (Nms.Kp (M b) 2000 n))
  (hp : ∀ b (n : Fin 2000) (ch : Fin 2), (W (Proc.devRef .tc main_v60) : FVec Ideal S8x2000x2 .f32) (ix3 b n ch) = (if ch.val < 1 then s b else e b) n)

open Classical in
/-- Only numbers below 2000 are kept. -/
theorem count_kept (M : Nat → Nat → Prop) : Nat.count (Nms.Kp M 2000) 2048 = Nat.count (Nms.Kp M 2000) 2000 := by
  rw [show 2048 = 2000 + 48 from rfl, Nat.count_add]
  have : Nat.count (fun k => Nms.Kp M 2000 (2000 + k)) 48 = 0 := by
    rw [Nat.count_eq_card_filter_range, Finset.card_eq_zero, Finset.filter_eq_empty_iff]
    intro k _ h
    rw [Nms.Kp] at h
    omega
  omega

open Classical in
/-- The kept numbers below 2048 are those below 2000. -/
theorem filter_kept (M : Nat → Nat → Prop) :
    ((List.range 2048).filter fun i => decide (Nms.Kp M 2000 i)) = (List.range 2000).filter fun i => decide (Nms.Kp M 2000 i) := by
  rw [show 2048 = 2000 + 48 from rfl, List.range_add, List.filter_append]
  refine (congrArg _ ?_).trans (List.append_nil _)
  rw [List.filter_eq_nil_iff]
  intro k hk h
  obtain ⟨i, _, rfl⟩ := List.mem_map.1 hk
  have := of_decide_eq_true h
  rw [Nms.Kp] at this
  omega

/-- The taking of the pairs leaves the valid bits alone. -/
theorem keep14 : after hostOps0_14 W (Proc.devRef .tc main_v102) = W (Proc.devRef .tc main_v102) := by
  after_reads_simp

/-- The sort of the flags leaves the sorted pairs alone. -/
theorem keep12 : after hostOps0_12 W (Proc.devRef .tc main_v60) = W (Proc.devRef .tc main_v60) := by
  after_reads_simp

/-- The flags leave the sorted pairs alone. -/
theorem keep11 : after hostOps0_11 W (Proc.devRef .tc main_v60) = W (Proc.devRef .tc main_v60) := by
  after_reads_simp

include hk hp in
open Classical in
/-- The reference's pairs: the kept ones in order, then zeros. -/
theorem pairs_at (b : Fin 8) (t : Fin 300) (ch : Fin 2) :
    (after hostOps0_16 (after hostOps0_15 (after hostOps0_14 (after hostOps0_13 (after hostOps0_12 (after hostOps0_11 W))))) (Proc.devRef .tc main_v106) : FVec Ideal S8x300x2 .f32) (ix3 b t ch)
      = if t.val < Nat.count (Nms.Kp (M b) 2000) 2048 then (if ch.val < 1 then s b else e b) (((List.range 2048).filter fun i => decide (Nms.Kp (M b) 2000 i)).getD t 0) else 0 := by
  rw [v106_at, keep14, v102_at W hk b t, count_kept, filter_kept]
  by_cases h : t.val < Nat.count (Nms.Kp (M b) 2000) 2000
  · rw [if_pos h, bit_true h]
    have hl : t.val < ((List.range 2000).filter fun n => decide (Nms.Kp (M b) 2000 n)).length := by
      rw [Routing.length_filter_range]; exact h
    have hm : ((List.range 2000).filter fun n => decide (Nms.Kp (M b) 2000 n)).getD t.val 0 < 2000 := by
      rw [List.getD_eq_getElem?_getD, List.getElem?_eq_getElem hl, Option.getD_some]
      exact List.mem_range.1 (List.mem_filter.1 (List.getElem_mem hl)).1
    refine (v104_at (after hostOps0_12 (after hostOps0_11 W)) b t ch ⟨_, hm⟩ (v95_at W hk b ⟨t.val, by omega⟩ hl) _ ?_)
    rw [keep12, keep11]
    exact hp b ⟨_, hm⟩ ch
  · rw [if_neg h]
    rw [bit_false h]
    rfl

end Post

/-- The reference's arguments. -/
abbrev X (m : (ℓ : Loc nD τ sig) → Buf (Elt Ideal) ℓ) (c : Dev nD) : FVec Ideal Spec.A .f32 := m (c.tc.loc main_arg0)

/-- The second. -/
abbrev Y (m : (ℓ : Loc nD τ sig) → Buf (Elt Ideal) ℓ) (c : Dev nD) : FVec Ideal Spec.A .f32 := m (c.tc.loc main_arg1)

/-- The reference's result is the specification's. -/
theorem final_eq (m : (ℓ : Loc nD τ sig) → Buf (Elt Ideal) ℓ) (c : Dev nD) :
    (finalContents condOps preI bodyI postI 2000 m c (Proc.devRef .tc main_v110) : FVec Ideal S8x300x3 .f32) = Spec.res (X m c) (Y m c) := by
  have hV : entryContents preI m c = V10 (fun b => m (c, b)) := rfl
  have hW : finalContents condOps preI bodyI postI 2000 m c
      = after hostOps0_17 (after hostOps0_16 (after hostOps0_15 (after hostOps0_14 (after hostOps0_13 (after hostOps0_12 (after hostOps0_11 (after condOps (atK m 2000 c)))))))) := rfl
  rw [hW]
  have hk : ∀ b (n : Fin 2000), (after condOps (atK m 2000 c) (Proc.devRef .tc main_v91_4) : IVec S8x2000 1) (ix2 b n)
      = bit (Nms.Kp (Nms.ovl (Spec.S (X m c) (Y m c) b) (Spec.E (X m c) (Y m c) b)) 2000 n) := by
    intro b n
    rw [cond_keeps _ main_v91_4 (by decide), atK_agree m c 2000 main_v91_4 (by decide), hV]
    exact loop_at _ b n
  have hp : ∀ b (n : Fin 2000) (ch : Fin 2), (after condOps (atK m 2000 c) (Proc.devRef .tc main_v60) : FVec Ideal S8x2000x2 .f32) (ix3 b n ch)
      = (if ch.val < 1 then Spec.S (X m c) (Y m c) b else Spec.E (X m c) (Y m c) b) n := by
    intro b n ch
    rw [after_of_writes_sub condOps _ condOps_writes (by decide), atK_keep m c main_v60 (by decide) (by decide) 2000, hV]
    exact entry_sorted _ b n ch
  generalize after condOps (atK m 2000 c) = W at hk hp ⊢
  funext i
  obtain ⟨b, t, ch, rfl⟩ : ∃ b t ch, i = ix3 b t ch := ⟨_, _, _, eq_ix3 i⟩
  refine (out_at _ b t ch).trans ?_
  rw [Spec.res_at]
  by_cases h : ch.val < 1
  · rw [dif_pos h, dif_pos h]
  · rw [dif_neg h, dif_neg h]
    exact pairs_at W (fun b => Nms.ovl (Spec.S (X m c) (Y m c) b) (Spec.E (X m c) (Y m c) b)) (Spec.S (X m c) (Y m c)) (Spec.E (X m c) (Y m c)) hk hp b t _

/-- The reference's run: its result is the specification's and its arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v110) = Spec.res (X m c) (Y m c)
      ∧ r.2.mem (c.tc.loc main_arg0) = m (c.tc.loc main_arg0)
      ∧ r.2.mem (c.tc.loc main_arg1) = m (c.tc.loc main_arg1)) :=
  (θ_run defs _ _).mono (fun r h c => ⟨(h c main_v110 (by decide)).trans (final_eq m c),
    (h c main_arg0 (by decide)).trans (final_arg0 m c), (h c main_arg1 (by decide)).trans (final_arg1 m c)⟩) (run_fold m ρ)

end Cert.Ref
-- ==== Proof.lean ====
/- The claim: the two kernel programs and the reference run with unchanged arguments, the idealization keeps the kernel's text, and
   the idealized kernel and reference compute the same array. -/
module

public import proofs.«01_k».proof.Proof.KerEnd
public import proofs.«01_k».proof.Proof.RefEnd
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The idealized kernel and the reference, given the same arguments, both leave `Spec.res` of them. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.Spec.res (Cert.Ker.X m c) (Cert.Ker.Y m c), Cert.Ker.run m g, ?_⟩
  refine (θ_run _ _ _).mono (fun r h c => ⟨(h c).1.trans ?_, (h c).2⟩) (Cert.Ref.run m' g')
  exact congrArg₂ Cert.Spec.res (hm c).1 (hm c).2

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Value.frame m ρ, trivial, algebraic⟩

end Cert.Proof

end
